-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_and_ordered [hPre_in_range_and_ordered : Cert.Pre_in_range_and_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_ordered [hPre_in_range_and_ordered : Cert.Pre_in_range_and_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_OrderedIdeal (m : (ℓ : Loc Cert.OrderedIdeal.nD Cert.OrderedIdeal.τ Cert.OrderedIdeal.sig) → Buf (Elt Ideal) ℓ) : Prop :=
  True

def Pre_OrderedIdeal_in_range [hPre_in_range : Cert.Pre_in_range.Facts] (m : (ℓ : Loc Cert.OrderedIdeal.nD Cert.OrderedIdeal.τ Cert.OrderedIdeal.sig) → Buf (Elt Ideal) ℓ) : Prop :=
  ∀ c : Dev Cert.OrderedIdeal.nD,
    (Cert.Pre_in_range.fn (F := Ideal) (m ((c.tc : Thread Cert.OrderedIdeal.nD Cert.OrderedIdeal.τ).loc Cert.OrderedIdeal.main_arg0)) (m ((c.tc : Thread Cert.OrderedIdeal.nD Cert.OrderedIdeal.τ).loc Cert.OrderedIdeal.main_arg1)) (m ((c.tc : Thread Cert.OrderedIdeal.nD Cert.OrderedIdeal.τ).loc Cert.OrderedIdeal.main_arg2)) (m ((c.tc : Thread Cert.OrderedIdeal.nD Cert.OrderedIdeal.τ).loc Cert.OrderedIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_and_ordered [hKernelIdeal : Cert.KernelIdeal.Facts] [hPre_in_range_and_ordered : Cert.Pre_in_range_and_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_and_ordered [hReferenceIdeal : Cert.ReferenceIdeal.Facts] [hPre_in_range_and_ordered : Cert.Pre_in_range_and_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OrderedIdeal [hOrderedIdeal : Cert.OrderedIdeal.Facts] : Prop :=
  ∀ (m : (ℓ : Loc Cert.OrderedIdeal.nD Cert.OrderedIdeal.τ Cert.OrderedIdeal.sig) → Buf (Elt Ideal) ℓ) (g : Dev Cert.OrderedIdeal.nD → PrngReg), Pre_OrderedIdeal m →
    θ_run (Cert.OrderedIdeal.defs (F := Ideal)) (onTc (τ := Cert.OrderedIdeal.τ) (Cert.OrderedIdeal.main (F := Ideal))) ⟨m, fun _ => 0, g⟩ (fun r => (∀ c : Dev Cert.OrderedIdeal.nD,
      r.2.mem ((c.tc : Thread Cert.OrderedIdeal.nD Cert.OrderedIdeal.τ).loc Cert.OrderedIdeal.main_arg0) = m ((c.tc : Thread Cert.OrderedIdeal.nD Cert.OrderedIdeal.τ).loc Cert.OrderedIdeal.main_arg0)
      ∧ r.2.mem ((c.tc : Thread Cert.OrderedIdeal.nD Cert.OrderedIdeal.τ).loc Cert.OrderedIdeal.main_arg1) = m ((c.tc : Thread Cert.OrderedIdeal.nD Cert.OrderedIdeal.τ).loc Cert.OrderedIdeal.main_arg1)
      ∧ r.2.mem ((c.tc : Thread Cert.OrderedIdeal.nD Cert.OrderedIdeal.τ).loc Cert.OrderedIdeal.main_arg2) = m ((c.tc : Thread Cert.OrderedIdeal.nD Cert.OrderedIdeal.τ).loc Cert.OrderedIdeal.main_arg2)
      ∧ r.2.mem ((c.tc : Thread Cert.OrderedIdeal.nD Cert.OrderedIdeal.τ).loc Cert.OrderedIdeal.main_arg3) = m ((c.tc : Thread Cert.OrderedIdeal.nD Cert.OrderedIdeal.τ).loc Cert.OrderedIdeal.main_arg3))
      ∧ r.2.sem = fun _ => 0)

def quiescent_OrderedIdeal_pre_in_range [hOrderedIdeal : Cert.OrderedIdeal.Facts] [hPre_in_range : Cert.Pre_in_range.Facts] : Prop :=
  ∀ (m : (ℓ : Loc Cert.OrderedIdeal.nD Cert.OrderedIdeal.τ Cert.OrderedIdeal.sig) → Buf (Elt Ideal) ℓ) (g : Dev Cert.OrderedIdeal.nD → PrngReg), Pre_OrderedIdeal_in_range m →
    θ_run (Cert.OrderedIdeal.defs (F := Ideal)) (onTc (τ := Cert.OrderedIdeal.τ) (Cert.OrderedIdeal.main (F := Ideal))) ⟨m, fun _ => 0, g⟩ (fun r => (∀ c : Dev Cert.OrderedIdeal.nD,
      r.2.mem ((c.tc : Thread Cert.OrderedIdeal.nD Cert.OrderedIdeal.τ).loc Cert.OrderedIdeal.main_arg0) = m ((c.tc : Thread Cert.OrderedIdeal.nD Cert.OrderedIdeal.τ).loc Cert.OrderedIdeal.main_arg0)
      ∧ r.2.mem ((c.tc : Thread Cert.OrderedIdeal.nD Cert.OrderedIdeal.τ).loc Cert.OrderedIdeal.main_arg1) = m ((c.tc : Thread Cert.OrderedIdeal.nD Cert.OrderedIdeal.τ).loc Cert.OrderedIdeal.main_arg1)
      ∧ r.2.mem ((c.tc : Thread Cert.OrderedIdeal.nD Cert.OrderedIdeal.τ).loc Cert.OrderedIdeal.main_arg2) = m ((c.tc : Thread Cert.OrderedIdeal.nD Cert.OrderedIdeal.τ).loc Cert.OrderedIdeal.main_arg2)
      ∧ r.2.mem ((c.tc : Thread Cert.OrderedIdeal.nD Cert.OrderedIdeal.τ).loc Cert.OrderedIdeal.main_arg3) = m ((c.tc : Thread Cert.OrderedIdeal.nD Cert.OrderedIdeal.τ).loc Cert.OrderedIdeal.main_arg3))
      ∧ r.2.sem = fun _ => 0)

def preserves_Kernel_KernelIdeal : Prop :=
  True

def algebraic_KernelIdeal_OrderedIdeal_pre_in_range [hKernelIdeal : Cert.KernelIdeal.Facts] [hOrderedIdeal : Cert.OrderedIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.OrderedIdeal.nD Cert.OrderedIdeal.τ Cert.OrderedIdeal.sig) → Buf (Elt Ideal) ℓ) (g' : Dev Cert.OrderedIdeal.nD → PrngReg), Pre_KernelIdeal_in_range m →
    (∀ c : Dev Cert.KernelIdeal.nD,
      m' ((c.tc : Thread Cert.OrderedIdeal.nD Cert.OrderedIdeal.τ).loc Cert.OrderedIdeal.main_arg0) = m ((c.tc : Thread Cert.KernelIdeal.nD Cert.KernelIdeal.τ).loc Cert.KernelIdeal.main_arg0)
      ∧ m' ((c.tc : Thread Cert.OrderedIdeal.nD Cert.OrderedIdeal.τ).loc Cert.OrderedIdeal.main_arg1) = m ((c.tc : Thread Cert.KernelIdeal.nD Cert.KernelIdeal.τ).loc Cert.KernelIdeal.main_arg1)
      ∧ m' ((c.tc : Thread Cert.OrderedIdeal.nD Cert.OrderedIdeal.τ).loc Cert.OrderedIdeal.main_arg2) = m ((c.tc : Thread Cert.KernelIdeal.nD Cert.KernelIdeal.τ).loc Cert.KernelIdeal.main_arg2)
      ∧ m' ((c.tc : Thread Cert.OrderedIdeal.nD Cert.OrderedIdeal.τ).loc Cert.OrderedIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.OrderedIdeal.defs (F := Ideal)) (onTc (τ := Cert.OrderedIdeal.τ) (Cert.OrderedIdeal.main (F := Ideal))) ⟨m', fun _ => 0, g'⟩ (fun r => ∀ c : Dev Cert.OrderedIdeal.nD,
          r.2.mem ((c.tc : Thread Cert.OrderedIdeal.nD Cert.OrderedIdeal.τ).loc Cert.OrderedIdeal.main_v86) = v0 c
          ∧ r.2.mem ((c.tc : Thread Cert.OrderedIdeal.nD Cert.OrderedIdeal.τ).loc Cert.OrderedIdeal.main_arg0) = m' ((c.tc : Thread Cert.OrderedIdeal.nD Cert.OrderedIdeal.τ).loc Cert.OrderedIdeal.main_arg0)
          ∧ r.2.mem ((c.tc : Thread Cert.OrderedIdeal.nD Cert.OrderedIdeal.τ).loc Cert.OrderedIdeal.main_arg1) = m' ((c.tc : Thread Cert.OrderedIdeal.nD Cert.OrderedIdeal.τ).loc Cert.OrderedIdeal.main_arg1)
          ∧ r.2.mem ((c.tc : Thread Cert.OrderedIdeal.nD Cert.OrderedIdeal.τ).loc Cert.OrderedIdeal.main_arg2) = m' ((c.tc : Thread Cert.OrderedIdeal.nD Cert.OrderedIdeal.τ).loc Cert.OrderedIdeal.main_arg2)
          ∧ r.2.mem ((c.tc : Thread Cert.OrderedIdeal.nD Cert.OrderedIdeal.τ).loc Cert.OrderedIdeal.main_arg3) = m' ((c.tc : Thread Cert.OrderedIdeal.nD Cert.OrderedIdeal.τ).loc Cert.OrderedIdeal.main_arg3))

def algebraic_KernelIdeal_ReferenceIdeal_pre_in_range_and_ordered [hKernelIdeal : Cert.KernelIdeal.Facts] [hReferenceIdeal : Cert.ReferenceIdeal.Facts] [hPre_in_range_and_ordered : Cert.Pre_in_range_and_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOrderedIdeal : Cert.OrderedIdeal.Facts) (hPre_in_range : Cert.Pre_in_range.Facts) (hPre_in_range_and_ordered : Cert.Pre_in_range_and_ordered.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_KernelIdeal_pre_in_range_and_ordered (hKernelIdeal := hKernelIdeal) (hPre_in_range_and_ordered := hPre_in_range_and_ordered)
    ∧ quiescent_ReferenceIdeal (hReferenceIdeal := hReferenceIdeal)
    ∧ quiescent_ReferenceIdeal_pre_in_range_and_ordered (hReferenceIdeal := hReferenceIdeal) (hPre_in_range_and_ordered := hPre_in_range_and_ordered)
    ∧ quiescent_OrderedIdeal (hOrderedIdeal := hOrderedIdeal)
    ∧ quiescent_OrderedIdeal_pre_in_range (hOrderedIdeal := hOrderedIdeal) (hPre_in_range := hPre_in_range)
    ∧ preserves_Kernel_KernelIdeal
    ∧ algebraic_KernelIdeal_OrderedIdeal_pre_in_range (hKernelIdeal := hKernelIdeal) (hOrderedIdeal := hOrderedIdeal) (hPre_in_range := hPre_in_range)
    ∧ algebraic_KernelIdeal_ReferenceIdeal_pre_in_range_and_ordered (hKernelIdeal := hKernelIdeal) (hReferenceIdeal := hReferenceIdeal) (hPre_in_range_and_ordered := hPre_in_range_and_ordered)
-- ==== Pre_in_range.lean ====
abbrev S4x2048x4096 : Shape := ⟨3, ![4, 2048, 4096]⟩
abbrev S4x2048 : Shape := ⟨2, ![4, 2048]⟩
abbrev S4x2048x4 : Shape := ⟨3, ![4, 2048, 4]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  bcast_S_S4x2048x4 : S_.BroadcastsInDim S4x2048x4 (![] : Fin 0 → Fin S4x2048x4.rank)
  reducesTo_S4x2048x4_S_d0_1_2 : S4x2048x4.ReducesTo [0, 1, 2] S_

variable [Facts]

def fn {F : FTy → Type} [FloatOps F] (main_arg0 : FVec F S4x2048x4096 .f32) (main_arg1 : IVec S4x2048 32) (main_arg2 : IVec S4x2048x4 32) (main_arg3 : FVec F S4x2048x4 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 1 := constantI S_ 1 1#1
  let main_v2 : IVec S_ 1 := (fun x v => Host.reduce IntOp.andi x v reducesTo_S4x2048_S_d0_1 h_S_) main_v1 main_c_0
  let main_c_1 : IVec S_ 32 := constantI S_ 32 0#32
  let main_v3 : IVec S4x2048x4 32 := broadcastInDim S4x2048x4 ![] bcast_S_S4x2048x4 main_c_1
  let main_v4 : IVec S4x2048x4 1 := cmpi .sge main_arg2 main_v3
  let main_c_2 : IVec S_ 1 := constantI S_ 1 1#1
  let main_v5 : IVec S_ 1 := (fun x v => Host.reduce IntOp.andi x v reducesTo_S4x2048x4_S_d0_1_2 h_S_) main_v4 main_c_2
  let main_v6 : IVec S_ 1 := andi main_v2 main_v5
  main_v6
-- ==== Pre_in_range_and_ordered.lean ====
abbrev S4x2048x4096 : Shape := ⟨3, ![4, 2048, 4096]⟩
abbrev S4x2048 : Shape := ⟨2, ![4, 2048]⟩
abbrev S4x2048x4 : Shape := ⟨3, ![4, 2048, 4]⟩
abbrev S4x2048x1 : Shape := ⟨3, ![4, 2048, 1]⟩
abbrev S_ : Shape := ⟨0, ![]⟩

class Facts : Prop where
  slices_S4x2048x4_S4x2048x1_0_0_0 : S4x2048x4.Slices ![0, 0, 0] S4x2048x1
  shapeCasts_S4x2048x1_S4x2048 : S4x2048x1.ShapeCasts S4x2048
  slices_S4x2048x4_S4x2048x1_0_0_1 : S4x2048x4.Slices ![0, 0, 1] S4x2048x1
  slices_S4x2048x4_S4x2048x1_0_0_2 : S4x2048x4.Slices ![0, 0, 2] S4x2048x1
  slices_S4x2048x4_S4x2048x1_0_0_3 : S4x2048x4.Slices ![0, 0, 3] S4x2048x1
  bcast_S_S4x2048 : S_.BroadcastsInDim S4x2048 (![] : Fin 0 → Fin S4x2048.rank)
  reducesTo_S4x2048_S_d0_1 : S4x2048.ReducesTo [0, 1] S_
  h_S_ : 0 < S_.numel
  bcast_S_S4x2048x4 : S_.BroadcastsInDim S4x2048x4 (![] : Fin 0 → Fin S4x2048x4.rank)
  reducesTo_S4x2048x4_S_d0_1_2 : S4x2048x4.ReducesTo [0, 1, 2] S_

variable [Facts]

def fn_part1 {F : FTy → Type} [FloatOps F] (main_v12 : IVec S4x2048 1) (main_v19 : IVec S_ 1) : IVec S_ 1 :=
  let main_c_3 : IVec S_ 1 := constantI S_ 1 1#1
  let main_v20 : IVec S_ 1 := (fun x v => Host.reduce IntOp.andi x v reducesTo_S4x2048_S_d0_1 h_S_) main_v12 main_c_3
  let main_v21 : IVec S_ 1 := andi main_v19 main_v20
  main_v21

def fn {F : FTy → Type} [FloatOps F] (main_arg0 : FVec F S4x2048x4096 .f32) (main_arg1 : IVec S4x2048 32) (main_arg2 : IVec S4x2048x4 32) (main_arg3 : FVec F S4x2048x4 .f32) : IVec S_ 1 :=
  let main_v0 : IVec S4x2048x1 32 := (extractStridedSlice S4x2048x1 ![0, 0, 0] · slices_S4x2048x4_S4x2048x1_0_0_0) main_arg2
  let main_v1 : IVec S4x2048 32 := shapeCast S4x2048 main_v0 shapeCasts_S4x2048x1_S4x2048
  let main_v2 : IVec S4x2048x1 32 := (extractStridedSlice S4x2048x1 ![0, 0, 1] · slices_S4x2048x4_S4x2048x1_0_0_1) main_arg2
  let main_v3 : IVec S4x2048 32 := shapeCast S4x2048 main_v2 shapeCasts_S4x2048x1_S4x2048
  let main_v4 : IVec S4x2048 1 := cmpi .ne main_v1 main_v3
  let main_v5 : IVec S4x2048x1 32 := (extractStridedSlice S4x2048x1 ![0, 0, 2] · slices_S4x2048x4_S4x2048x1_0_0_2) main_arg2
  let main_v6 : IVec S4x2048 32 := shapeCast S4x2048 main_v5 shapeCasts_S4x2048x1_S4x2048
  let main_v7 : IVec S4x2048 1 := cmpi .eq main_v1 main_v6
  let main_v8 : IVec S4x2048 1 := ori main_v4 main_v7
  let main_v9 : IVec S4x2048x1 32 := (extractStridedSlice S4x2048x1 ![0, 0, 3] · slices_S4x2048x4_S4x2048x1_0_0_3) main_arg2
  let main_v10 : IVec S4x2048 32 := shapeCast S4x2048 main_v9 shapeCasts_S4x2048x1_S4x2048
  let main_v11 : IVec S4x2048 1 := cmpi .eq main_v1 main_v10
  let main_v12 : IVec S4x2048 1 := ori main_v8 main_v11
  let main_c : IVec S_ 32 := constantI S_ 32 0#32
  let main_v13 : IVec S4x2048 32 := broadcastInDim S4x2048 ![] bcast_S_S4x2048 main_c
  let main_v14 : IVec S4x2048 1 := cmpi .sge main_arg1 main_v13
  let main_c_0 : IVec S_ 1 := constantI S_ 1 1#1
  let main_v15 : IVec S_ 1 := (fun x v => Host.reduce IntOp.andi x v reducesTo_S4x2048_S_d0_1 h_S_) main_v14 main_c_0
  let main_c_1 : IVec S_ 32 := constantI S_ 32 0#32
  let main_v16 : IVec S4x2048x4 32 := broadcastInDim S4x2048x4 ![] bcast_S_S4x2048x4 main_c_1
  let main_v17 : IVec S4x2048x4 1 := cmpi .sge main_arg2 main_v16
  let main_c_2 : IVec S_ 1 := constantI S_ 1 1#1
  let main_v18 : IVec S_ 1 := (fun x v => Host.reduce IntOp.andi x v reducesTo_S4x2048x4_S_d0_1_2 h_S_) main_v17 main_c_2
  let main_v19 : IVec S_ 1 := andi main_v15 main_v18
  fn_part1 (F := F) main_v12 main_v19
-- ==== Kernel.lean ====
abbrev S4x2048x4096 : Shape := ⟨3, ![4, 2048, 4096]⟩
abbrev S4x2048 : Shape := ⟨2, ![4, 2048]⟩
abbrev S4x2048x4 : Shape := ⟨3, ![4, 2048, 4]⟩
abbrev S_ : Shape := ⟨0, ![]⟩
abbrev S8192x4096 : Shape := ⟨2, ![8192, 4096]⟩
abbrev S8192x1 : Shape := ⟨2, ![8192, 1]⟩
abbrev S32768 : Shape := ⟨1, ![32768]⟩
abbrev S8192 : Shape := ⟨1, ![8192]⟩
abbrev S8192x4 : Shape := ⟨2, ![8192, 4]⟩
abbrev S8192x2 : Shape := ⟨2, ![8192, 2]⟩
abbrev S8192x8 : Shape := ⟨2, ![8192, 8]⟩
abbrev S512x4096 : Shape := ⟨2, ![512, 4096]⟩
abbrev S512x8 : Shape := ⟨2, ![512, 8]⟩
abbrev S512x1 : Shape := ⟨2, ![512, 1]⟩

abbrev nBuf : Space → Nat
  | .hbm => 105
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4x2048, .i32⟩
  | .hbm, ⟨2, _⟩ => ⟨S4x2048x4, .i32⟩
  | .hbm, ⟨3, _⟩ => ⟨S4x2048x4, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S8192x1, .i32⟩
  | .hbm, ⟨9, _⟩ => ⟨S_, .i32⟩
  | .hbm, ⟨10, _⟩ => ⟨S8192x1, .i32⟩
  | .hbm, ⟨11, _⟩ => ⟨S8192x1, .i1⟩
  | .hbm, ⟨12, _⟩ => ⟨S32768, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x4, .i32⟩
  | .hbm, ⟨36, _⟩ => ⟨S_, .f32⟩
  | .hbm, ⟨37, _⟩ => ⟨S4x2048x4, .f32⟩
  | .hbm, ⟨38, _⟩ => ⟨S4x2048x4, .f32⟩
  | .hbm, ⟨39, _⟩ => ⟨S8192x4, .f32⟩
  | .hbm, ⟨40, _⟩ => ⟨S_, .f32⟩
  | .hbm, ⟨41, _⟩ => ⟨S_, .f32⟩
  | .hbm, ⟨42, _⟩ => ⟨S8192x4, .i1⟩
  | .hbm, ⟨43, _⟩ => ⟨S8192x4, .f32⟩
  | .hbm, ⟨44, _⟩ => ⟨S8192x4, .f32⟩
  | .hbm, ⟨45, _⟩ => ⟨S_, .i32⟩
  | .hbm, ⟨46, _⟩ => ⟨S8192x4, .i32⟩
  | .hbm, ⟨47, _⟩ => ⟨S8192x4, .i1⟩
  | .hbm, ⟨48, _⟩ => ⟨S8192x4, .i32⟩
  | .hbm, ⟨49, _⟩ => ⟨S8192x4, .i1⟩
  | .hbm, ⟨50, _⟩ => ⟨S8192x4, .f32⟩
  | .hbm, ⟨51, _⟩ => ⟨S8192x4, .f32⟩
  | .hbm, ⟨52, _⟩ => ⟨S8192x4, .f32⟩
  | .hbm, ⟨53, _⟩ => ⟨S_, .f32⟩
  | .hbm, ⟨54, _⟩ => ⟨S_, .f32⟩
  | .hbm, ⟨55, _⟩ => ⟨S8192x4, .f32⟩
  | .hbm, ⟨56, _⟩ => ⟨S8192x4, .f32⟩
  | .hbm, ⟨57, _⟩ => ⟨S8192x4, .f32⟩
  | .hbm, ⟨58, _⟩ => ⟨S_, .f32⟩
  | .hbm, ⟨59, _⟩ => ⟨S_, .f32⟩
  | .hbm, ⟨60, _⟩ => ⟨S8192x4, .i1⟩
  | .hbm, ⟨61, _⟩ => ⟨S8192x4, .f32⟩
  | .hbm, ⟨62, _⟩ => ⟨S8192x4, .f32⟩
  | .hbm, ⟨63, _⟩ => ⟨S_, .f32⟩
  | .hbm, ⟨64, _⟩ => ⟨S8192x1, .f32⟩
  | .hbm, ⟨65, _⟩ => ⟨S8192x1, .i32⟩
  | .hbm, ⟨66, _⟩ => ⟨S_, .i32⟩
  | .hbm, ⟨67, _⟩ => ⟨S8192x1, .i32⟩
  | .hbm, ⟨68, _⟩ => ⟨S8192x1, .i1⟩
  | .hbm, ⟨69, _⟩ => ⟨S8192x1, .f32⟩
  | .hbm, ⟨70, _⟩ => ⟨S8192x1, .f32⟩
  | .hbm, ⟨71, _⟩ => ⟨S8192x1, .i32⟩
  | .hbm, ⟨72, _⟩ => ⟨S_, .i32⟩
  | .hbm, ⟨73, _⟩ => ⟨S8192x1, .i32⟩
  | .hbm, ⟨74, _⟩ => ⟨S8192x1, .i1⟩
  | .hbm, ⟨75, _⟩ => ⟨S8192x1, .f32⟩
  | .hbm, ⟨76, _⟩ => ⟨S8192x1, .f32⟩
  | .hbm, ⟨77, _⟩ => ⟨S8192x1, .i32⟩
  | .hbm, ⟨78, _⟩ => ⟨S_, .i32⟩
  | .hbm, ⟨79, _⟩ => ⟨S8192x1, .i32⟩
  | .hbm, ⟨80, _⟩ => ⟨S8192x1, .i1⟩
  | .hbm, ⟨81, _⟩ => ⟨S8192x1, .f32⟩
  | .hbm, ⟨82, _⟩ => ⟨S8192x1, .f32⟩
  | .hbm, ⟨83, _⟩ => ⟨S8192x1, .i32⟩
  | .hbm, ⟨84, _⟩ => ⟨S_, .i32⟩
  | .hbm, ⟨85, _⟩ => ⟨S8192x1, .i32⟩
  | .hbm, ⟨86, _⟩ => ⟨S8192x1, .i1⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .i32⟩
  | .hbm, ⟨97, _⟩ => ⟨S8192x1, .i32⟩
  | .hbm, ⟨98, _⟩ => ⟨S_, .i32⟩
  | .hbm, ⟨99, _⟩ => ⟨S8192x2, .i32⟩
  | .hbm, ⟨100, _⟩ => ⟨S8192x8, .i32⟩
  | .hbm, ⟨101, _⟩ => ⟨S_, .f32⟩
  | .hbm, ⟨102, _⟩ => ⟨S8192x1, .f32⟩
  | .hbm, ⟨103, _⟩ => ⟨S8192x8, .f32⟩
  | .hbm, ⟨104, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x8, .i32⟩
  | .local _ .vmem, ⟨3, _⟩ => ⟨S512x8, .i32⟩
  | .local _ .vmem, ⟨4, _⟩ => ⟨S512x8, .f32⟩
  | .local _ .vmem, ⟨5, _⟩ => ⟨S512x8, .f32⟩
  | .local _ .vmem, ⟨6, _⟩ => ⟨S512x4096, .f32⟩
  | .local _ .vmem, ⟨7, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_8 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v21 : Ref sig .tc := ⟨.hbm, 44, rfl⟩
abbrev main_c_9 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call3_v0 : Ref sig .tc := ⟨.hbm, 50, rfl⟩
abbrev main_call3_v1 : Ref sig .tc := ⟨.hbm, 51, rfl⟩
abbrev main_v26 : Ref sig .tc := ⟨.hbm, 52, rfl⟩
abbrev main_cst_10 : Ref sig .tc := ⟨.hbm, 53, rfl⟩
abbrev main_call4_v0 : Ref sig .tc := ⟨.hbm, 54, rfl⟩
abbrev main_call4_v1 : Ref sig .tc := ⟨.hbm, 55, rfl⟩
abbrev main_v27 : Ref sig .tc := ⟨.hbm, 56, rfl⟩
abbrev main_v28 : Ref sig .tc := ⟨.hbm, 57, rfl⟩
abbrev main_cst_11 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_v29 : Ref sig .tc := ⟨.hbm, 62, rfl⟩
abbrev main_cst_12 : Ref sig .tc := ⟨.hbm, 63, rfl⟩
abbrev main_v30 : Ref sig .tc := ⟨.hbm, 64, rfl⟩
abbrev main_v31 : Ref sig .tc := ⟨.hbm, 65, rfl⟩
abbrev main_c_13 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_14 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_15 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_16 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_17 : Ref sig .tc := ⟨.hbm, 89, rfl⟩
abbrev main_v51 : Ref sig .tc := ⟨.hbm, 90, rfl⟩
abbrev main_v52 : Ref sig .tc := ⟨.hbm, 91, rfl⟩
abbrev main_cst_18 : Ref sig .tc := ⟨.hbm, 92, rfl⟩
abbrev main_call10_v0 : Ref sig .tc := ⟨.hbm, 93, rfl⟩
abbrev main_call10_v1 : Ref sig .tc := ⟨.hbm, 94, rfl⟩
abbrev main_v53 : Ref sig .tc := ⟨.hbm, 95, rfl⟩
abbrev main_c_19 : Ref sig .tc := ⟨.hbm, 96, rfl⟩
abbrev main_v54 : Ref sig .tc := ⟨.hbm, 97, rfl⟩
abbrev main_c_20 : Ref sig .tc := ⟨.hbm, 98, rfl⟩
abbrev main_v55 : Ref sig .tc := ⟨.hbm, 99, rfl⟩
abbrev main_v56 : Ref sig .tc := ⟨.hbm, 100, rfl⟩
abbrev main_cst_21 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x2048x4096 : Shape := ⟨3, ![4, 2048, 4096]⟩
abbrev S4x2048 : Shape := ⟨2, ![4, 2048]⟩
abbrev S4x2048x4 : Shape := ⟨3, ![4, 2048, 4]⟩
abbrev S_ : Shape := ⟨0, ![]⟩
abbrev S32768 : Shape := ⟨1, ![32768]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x4x1 : Shape := ⟨4, ![4, 2048, 4, 1]⟩
abbrev S4x2048x4x3 : Shape := ⟨4, ![4, 2048, 4, 3]⟩
abbrev S8192x4096 : Shape := ⟨2, ![8192, 4096]⟩
abbrev S8192 : Shape := ⟨1, ![8192]⟩
abbrev S1x8192 : Shape := ⟨2, ![1, 8192]⟩
abbrev S4x8192 : Shape := ⟨2, ![4, 8192]⟩
abbrev S8192x4 : Shape := ⟨2, ![8192, 4]⟩
abbrev S8192x1 : Shape := ⟨2, ![8192, 1]⟩
abbrev S8192x4x1 : Shape := ⟨3, ![8192, 4, 1]⟩
abbrev S8192x4x2 : Shape := ⟨3, ![8192, 4, 2]⟩
abbrev S1 : Shape := ⟨1, ![1]⟩

abbrev nBuf : Space → Nat
  | .hbm => 108
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048, .i32⟩
  | .hbm, ⟨2, _⟩ => ⟨S4x2048x4, .i32⟩
  | .hbm, ⟨3, _⟩ => ⟨S4x2048x4, .f32⟩
  | .hbm, ⟨4, _⟩ => ⟨S_, .f32⟩
  | .hbm, ⟨5, _⟩ => ⟨S4x2048x4, .f32⟩
  | .hbm, ⟨6, _⟩ => ⟨S4x2048x4, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S_, .f32⟩
  | .hbm, ⟨12, _⟩ => ⟨S4x2048x4, .f32⟩
  | .hbm, ⟨13, _⟩ => ⟨S4x2048x4, .f32⟩
  | .hbm, ⟨14, _⟩ => ⟨S4, .i32⟩
  | .hbm, ⟨15, _⟩ => ⟨S4x1x1, .i32⟩
  | .hbm, ⟨16, _⟩ => ⟨S2048, .i32⟩
  | .hbm, ⟨17, _⟩ => ⟨S1x2048x1, .i32⟩
  | .hbm, ⟨18, _⟩ => ⟨S_, .f32⟩
  | .hbm, ⟨19, _⟩ => ⟨S4x2048x4096, .f32⟩
  | .hbm, ⟨20, _⟩ => ⟨S_, .i32⟩
  | .hbm, ⟨21, _⟩ => ⟨S4x1x1, .i32⟩
  | .hbm, ⟨22, _⟩ => ⟨S4x1x1, .i1⟩
  | .hbm, ⟨23, _⟩ => ⟨S_, .i32⟩
  | .hbm, ⟨24, _⟩ => ⟨S4x1x1, .i32⟩
  | .hbm, ⟨25, _⟩ => ⟨S4x1x1, .i32⟩
  | .hbm, ⟨26, _⟩ => ⟨S4x1x1, .i32⟩
  | .hbm, ⟨27, _⟩ => ⟨S_, .i32⟩
  | .hbm, ⟨28, _⟩ => ⟨S1x2048x1, .i32⟩
  | .hbm, ⟨29, _⟩ => ⟨S1x2048x1, .i1⟩
  | .hbm, ⟨30, _⟩ => ⟨S_, .i32⟩
  | .hbm, ⟨31, _⟩ => ⟨S1x2048x1, .i32⟩
  | .hbm, ⟨32, _⟩ => ⟨S1x2048x1, .i32⟩
  | .hbm, ⟨33, _⟩ => ⟨S1x2048x1, .i32⟩
  | .hbm, ⟨34, _⟩ => ⟨S_, .i32⟩
  | .hbm, ⟨35, _⟩ => ⟨S4x2048x4, .i32⟩
  | .hbm, ⟨36, _⟩ => ⟨S4x2048x4, .i1⟩
  | .hbm, ⟨37, _⟩ => ⟨S_, .i32⟩
  | .hbm, ⟨38, _⟩ => ⟨S4x2048x4, .i32⟩
  | .hbm, ⟨39, _⟩ => ⟨S4x2048x4, .i32⟩
  | .hbm, ⟨40, _⟩ => ⟨S4x2048x4, .i32⟩
  | .hbm, ⟨41, _⟩ => ⟨S4x2048x4, .i32⟩
  | .hbm, ⟨42, _⟩ => ⟨S4x2048x4, .i32⟩
  | .hbm, ⟨43, _⟩ => ⟨S4x2048x4x1, .i32⟩
  | .hbm, ⟨44, _⟩ => ⟨S4x2048x4x1, .i32⟩
  | .hbm, ⟨45, _⟩ => ⟨S4x2048x4x1, .i32⟩
  | .hbm, ⟨46, _⟩ => ⟨S4x2048x4x3, .i32⟩
  | .hbm, ⟨47, _⟩ => ⟨S4x2048x4096, .f32⟩
  | .hbm, ⟨48, _⟩ => ⟨S8192x4096, .f32⟩
  | .hbm, ⟨49, _⟩ => ⟨S8192, .i32⟩
  | .hbm, ⟨50, _⟩ => ⟨S_, .f32⟩
  | .hbm, ⟨51, _⟩ => ⟨S8192x4096, .f32⟩
  | .hbm, ⟨52, _⟩ => ⟨S_, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S1x8192, .i32⟩
  | .hbm, ⟨59, _⟩ => ⟨S4x8192, .i32⟩
  | .hbm, ⟨60, _⟩ => ⟨S32768, .i32⟩
  | .hbm, ⟨61, _⟩ => ⟨S4x8192, .i32⟩
  | .hbm, ⟨62, _⟩ => ⟨S8192x4, .i32⟩
  | .hbm, ⟨63, _⟩ => ⟨S4x8192, .f32⟩
  | .hbm, ⟨64, _⟩ => ⟨S8192x4, .f32⟩
  | .hbm, ⟨65, _⟩ => ⟨S8192, .i32⟩
  | .hbm, ⟨66, _⟩ => ⟨S8192x1, .i32⟩
  | .hbm, ⟨67, _⟩ => ⟨S_, .i32⟩
  | .hbm, ⟨68, _⟩ => ⟨S8192x1, .i32⟩
  | .hbm, ⟨69, _⟩ => ⟨S8192x1, .i1⟩
  | .hbm, ⟨70, _⟩ => ⟨S_, .i32⟩
  | .hbm, ⟨71, _⟩ => ⟨S8192x1, .i32⟩
  | .hbm, ⟨72, _⟩ => ⟨S8192x1, .i32⟩
  | .hbm, ⟨73, _⟩ => ⟨S8192x1, .i32⟩
  | .hbm, ⟨74, _⟩ => ⟨S_, .i32⟩
  | .hbm, ⟨75, _⟩ => ⟨S8192x4, .i32⟩
  | .hbm, ⟨76, _⟩ => ⟨S8192x4, .i1⟩
  | .hbm, ⟨77, _⟩ => ⟨S_, .i32⟩
  | .hbm, ⟨78, _⟩ => ⟨S8192x4, .i32⟩
  | .hbm, ⟨79, _⟩ => ⟨S8192x4, .i32⟩
  | .hbm, ⟨80, _⟩ => ⟨S8192x4, .i32⟩
  | .hbm, ⟨81, _⟩ => ⟨S8192x4, .i32⟩
  | .hbm, ⟨82, _⟩ => ⟨S8192x4x1, .i32⟩
  | .hbm, ⟨83, _⟩ => ⟨S8192x4x1, .i32⟩
  | .hbm, ⟨84, _⟩ => ⟨S8192x4x2, .i32⟩
  | .hbm, ⟨85, _⟩ => ⟨S8192x4096, .f32⟩
  | .hbm, ⟨86, _⟩ => ⟨S_, .i32⟩
  | .hbm, ⟨87, _⟩ => ⟨S1, .i32⟩
  | .hbm, ⟨88, _⟩ => ⟨S_, .f32⟩
  | .hbm, ⟨89, _⟩ => ⟨S8192, .f32⟩
  | .hbm, ⟨90, _⟩ => ⟨S8192x4096, .f32⟩
  | .hbm, ⟨91, _⟩ => ⟨S8192x4096, .f32⟩
  | .hbm, ⟨92, _⟩ => ⟨S8192x4096, .f32⟩
  | .hbm, ⟨93, _⟩ => ⟨S_, .i32⟩
  | .hbm, ⟨94, _⟩ => ⟨S8192, .i32⟩
  | .hbm, ⟨95, _⟩ => ⟨S8192, .i1⟩
  | .hbm, ⟨96, _⟩ => ⟨S8192x1, .i1⟩
  | .hbm, ⟨97, _⟩ => ⟨S_, .f32⟩
  | .hbm, ⟨98, _⟩ => ⟨S_, .f32⟩
  | .hbm, ⟨99, _⟩ => ⟨S8192x4096, .i1⟩
  | .hbm, ⟨100, _⟩ => ⟨S8192x4096, .f32⟩
  | .hbm, ⟨101, _⟩ => ⟨S8192x4096, .f32⟩
  | .hbm, ⟨102, _⟩ => ⟨S_, .f32⟩
  | .hbm, ⟨103, _⟩ => ⟨S8192x4096, .f32⟩
  | .hbm, ⟨104, _⟩ => ⟨S8192x4096, .f32⟩
  | .hbm, ⟨105, _⟩ => ⟨S8192x4096, .f32⟩
  | .hbm, ⟨106, _⟩ => ⟨S8192x4096, .f32⟩
  | .hbm, ⟨107, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_13 : Ref sig .tc := ⟨.hbm, 74, rfl⟩
abbrev main_v55 : Ref sig .tc := ⟨.hbm, 75, rfl⟩
abbrev main_v56 : Ref sig .tc := ⟨.hbm, 76, rfl⟩
abbrev main_c_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_15 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_17 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_18 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== OrderedIdeal.lean ====
abbrev S4x2048x4096 : Shape := ⟨3, ![4, 2048, 4096]⟩
abbrev S4x2048 : Shape := ⟨2, ![4, 2048]⟩
abbrev S4x2048x4 : Shape := ⟨3, ![4, 2048, 4]⟩
abbrev S_ : Shape := ⟨0, ![]⟩
abbrev S32768 : Shape := ⟨1, ![32768]⟩
abbrev S4x2048x1 : Shape := ⟨3, ![4, 2048, 1]⟩
abbrev S4x2048x2 : Shape := ⟨3, ![4, 2048, 2]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x4x1 : Shape := ⟨4, ![4, 2048, 4, 1]⟩
abbrev S4x2048x4x3 : Shape := ⟨4, ![4, 2048, 4, 3]⟩
abbrev S8192x4096 : Shape := ⟨2, ![8192, 4096]⟩
abbrev S8192 : Shape := ⟨1, ![8192]⟩
abbrev S1x8192 : Shape := ⟨2, ![1, 8192]⟩
abbrev S4x8192 : Shape := ⟨2, ![4, 8192]⟩
abbrev S8192x4 : Shape := ⟨2, ![8192, 4]⟩
abbrev S8192x1 : Shape := ⟨2, ![8192, 1]⟩
abbrev S8192x4x1 : Shape := ⟨3, ![8192, 4, 1]⟩
abbrev S8192x4x2 : Shape := ⟨3, ![8192, 4, 2]⟩
abbrev S1 : Shape := ⟨1, ![1]⟩

abbrev nBuf : Space → Nat
  | .hbm => 116
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048, .i32⟩
  | .hbm, ⟨2, _⟩ => ⟨S4x2048x4, .i32⟩
  | .hbm, ⟨3, _⟩ => ⟨S4x2048x4, .f32⟩
  | .hbm, ⟨4, _⟩ => ⟨S_, .f32⟩
  | .hbm, ⟨5, _⟩ => ⟨S4x2048x4, .f32⟩
  | .hbm, ⟨6, _⟩ => ⟨S4x2048x4, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S_, .f32⟩
  | .hbm, ⟨12, _⟩ => ⟨S4x2048x4, .f32⟩
  | .hbm, ⟨13, _⟩ => ⟨S4x2048x4, .f32⟩
  | .hbm, ⟨14, _⟩ => ⟨S4x2048x1, .i32⟩
  | .hbm, ⟨15, _⟩ => ⟨S4x2048x1, .i32⟩
  | .hbm, ⟨16, _⟩ => ⟨S4x2048x2, .i32⟩
  | .hbm, ⟨17, _⟩ => ⟨S4x2048x4, .i32⟩
  | .hbm, ⟨18, _⟩ => ⟨S4x2048x1, .f32⟩
  | .hbm, ⟨19, _⟩ => ⟨S4x2048x1, .f32⟩
  | .hbm, ⟨20, _⟩ => ⟨S4x2048x2, .f32⟩
  | .hbm, ⟨21, _⟩ => ⟨S4x2048x4, .f32⟩
  | .hbm, ⟨22, _⟩ => ⟨S4, .i32⟩
  | .hbm, ⟨23, _⟩ => ⟨S4x1x1, .i32⟩
  | .hbm, ⟨24, _⟩ => ⟨S2048, .i32⟩
  | .hbm, ⟨25, _⟩ => ⟨S1x2048x1, .i32⟩
  | .hbm, ⟨26, _⟩ => ⟨S_, .f32⟩
  | .hbm, ⟨27, _⟩ => ⟨S4x2048x4096, .f32⟩
  | .hbm, ⟨28, _⟩ => ⟨S_, .i32⟩
  | .hbm, ⟨29, _⟩ => ⟨S4x1x1, .i32⟩
  | .hbm, ⟨30, _⟩ => ⟨S4x1x1, .i1⟩
  | .hbm, ⟨31, _⟩ => ⟨S_, .i32⟩
  | .hbm, ⟨32, _⟩ => ⟨S4x1x1, .i32⟩
  | .hbm, ⟨33, _⟩ => ⟨S4x1x1, .i32⟩
  | .hbm, ⟨34, _⟩ => ⟨S4x1x1, .i32⟩
  | .hbm, ⟨35, _⟩ => ⟨S_, .i32⟩
  | .hbm, ⟨36, _⟩ => ⟨S1x2048x1, .i32⟩
  | .hbm, ⟨37, _⟩ => ⟨S1x2048x1, .i1⟩
  | .hbm, ⟨38, _⟩ => ⟨S_, .i32⟩
  | .hbm, ⟨39, _⟩ => ⟨S1x2048x1, .i32⟩
  | .hbm, ⟨40, _⟩ => ⟨S1x2048x1, .i32⟩
  | .hbm, ⟨41, _⟩ => ⟨S1x2048x1, .i32⟩
  | .hbm, ⟨42, _⟩ => ⟨S_, .i32⟩
  | .hbm, ⟨43, _⟩ => ⟨S4x2048x4, .i32⟩
  | .hbm, ⟨44, _⟩ => ⟨S4x2048x4, .i1⟩
  | .hbm, ⟨45, _⟩ => ⟨S_, .i32⟩
  | .hbm, ⟨46, _⟩ => ⟨S4x2048x4, .i32⟩
  | .hbm, ⟨47, _⟩ => ⟨S4x2048x4, .i32⟩
  | .hbm, ⟨48, _⟩ => ⟨S4x2048x4, .i32⟩
  | .hbm, ⟨49, _⟩ => ⟨S4x2048x4, .i32⟩
  | .hbm, ⟨50, _⟩ => ⟨S4x2048x4, .i32⟩
  | .hbm, ⟨51, _⟩ => ⟨S4x2048x4x1, .i32⟩
  | .hbm, ⟨52, _⟩ => ⟨S4x2048x4x1, .i32⟩
  | .hbm, ⟨53, _⟩ => ⟨S4x2048x4x1, .i32⟩
  | .hbm, ⟨54, _⟩ => ⟨S4x2048x4x3, .i32⟩
  | .hbm, ⟨55, _⟩ => ⟨S4x2048x4096, .f32⟩
  | .hbm, ⟨56, _⟩ => ⟨S8192x4096, .f32⟩
  | .hbm, ⟨57, _⟩ => ⟨S8192, .i32⟩
  | .hbm, ⟨58, _⟩ => ⟨S_, .f32⟩
  | .hbm, ⟨59, _⟩ => ⟨S8192x4096, .f32⟩
  | .hbm, ⟨60, _⟩ => ⟨S_, .f32⟩
  | .hbm, ⟨61, _⟩ => ⟨S8192x4096, .f32⟩
  | .hbm, ⟨62, _⟩ => ⟨S8192x4096, .f32⟩
  | .hbm, ⟨63, _⟩ => ⟨S_, .f32⟩
  | .hbm, ⟨64, _⟩ => ⟨S8192x4096, .f32⟩
  | .hbm, ⟨65, _⟩ => ⟨S8192x4096, .f32⟩
  | .hbm, ⟨66, _⟩ => ⟨S1x8192, .i32⟩
  | .hbm, ⟨67, _⟩ => ⟨S4x8192, .i32⟩
  | .hbm, ⟨68, _⟩ => ⟨S32768, .i32⟩
  | .hbm, ⟨69, _⟩ => ⟨S4x8192, .i32⟩
  | .hbm, ⟨70, _⟩ => ⟨S8192x4, .i32⟩
  | .hbm, ⟨71, _⟩ => ⟨S4x8192, .f32⟩
  | .hbm, ⟨72, _⟩ => ⟨S8192x4, .f32⟩
  | .hbm, ⟨73, _⟩ => ⟨S8192, .i32⟩
  | .hbm, ⟨74, _⟩ => ⟨S8192x1, .i32⟩
  | .hbm, ⟨75, _⟩ => ⟨S_, .i32⟩
  | .hbm, ⟨76, _⟩ => ⟨S8192x1, .i32⟩
  | .hbm, ⟨77, _⟩ => ⟨S8192x1, .i1⟩
  | .hbm, ⟨78, _⟩ => ⟨S_, .i32⟩
  | .hbm, ⟨79, _⟩ => ⟨S8192x1, .i32⟩
  | .hbm, ⟨80, _⟩ => ⟨S8192x1, .i32⟩
  | .hbm, ⟨81, _⟩ => ⟨S8192x1, .i32⟩
  | .hbm, ⟨82, _⟩ => ⟨S_, .i32⟩
  | .hbm, ⟨83, _⟩ => ⟨S8192x4, .i32⟩
  | .hbm, ⟨84, _⟩ => ⟨S8192x4, .i1⟩
  | .hbm, ⟨85, _⟩ => ⟨S_, .i32⟩
  | .hbm, ⟨86, _⟩ => ⟨S8192x4, .i32⟩
  | .hbm, ⟨87, _⟩ => ⟨S8192x4, .i32⟩
  | .hbm, ⟨88, _⟩ => ⟨S8192x4, .i32⟩
  | .hbm, ⟨89, _⟩ => ⟨S8192x4, .i32⟩
  | .hbm, ⟨90, _⟩ => ⟨S8192x4x1, .i32⟩
  | .hbm, ⟨91, _⟩ => ⟨S8192x4x1, .i32⟩
  | .hbm, ⟨92, _⟩ => ⟨S8192x4x2, .i32⟩
  | .hbm, ⟨93, _⟩ => ⟨S8192x4096, .f32⟩
  | .hbm, ⟨94, _⟩ => ⟨S_, .i32⟩
  | .hbm, ⟨95, _⟩ => ⟨S1, .i32⟩
  | .hbm, ⟨96, _⟩ => ⟨S_, .f32⟩
  | .hbm, ⟨97, _⟩ => ⟨S8192, .f32⟩
  | .hbm, ⟨98, _⟩ => ⟨S8192x4096, .f32⟩
  | .hbm, ⟨99, _⟩ => ⟨S8192x4096, .f32⟩
  | .hbm, ⟨100, _⟩ => ⟨S8192x4096, .f32⟩
  | .hbm, ⟨101, _⟩ => ⟨S_, .i32⟩
  | .hbm, ⟨102, _⟩ => ⟨S8192, .i32⟩
  | .hbm, ⟨103, _⟩ => ⟨S8192, .i1⟩
  | .hbm, ⟨104, _⟩ => ⟨S8192x1, .i1⟩
  | .hbm, ⟨105, _⟩ => ⟨S_, .f32⟩
  | .hbm, ⟨106, _⟩ => ⟨S_, .f32⟩
  | .hbm, ⟨107, _⟩ => ⟨S8192x4096, .i1⟩
  | .hbm, ⟨108, _⟩ => ⟨S8192x4096, .f32⟩
  | .hbm, ⟨109, _⟩ => ⟨S8192x4096, .f32⟩
  | .hbm, ⟨110, _⟩ => ⟨S_, .f32⟩
  | .hbm, ⟨111, _⟩ => ⟨S8192x4096, .f32⟩
  | .hbm, ⟨112, _⟩ => ⟨S8192x4096, .f32⟩
  | .hbm, ⟨113, _⟩ => ⟨S8192x4096, .f32⟩
  | .hbm, ⟨114, _⟩ => ⟨S8192x4096, .f32⟩
  | .hbm, ⟨115, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_13 : Ref sig .tc := ⟨.hbm, 82, rfl⟩
abbrev main_v63 : Ref sig .tc := ⟨.hbm, 83, rfl⟩
abbrev main_v64 : Ref sig .tc := ⟨.hbm, 84, rfl⟩
abbrev main_c_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_15 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_17 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_18 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v81 : Ref sig .tc := ⟨.hbm, 109, rfl⟩
abbrev main_cst_19 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]
-- ==== Proof.Elem.lean ====
/-
  One element of the result as a function of its row's data: the row's target word, its four biased-target words, its four
  offsets and the one offset `q` that sets the target's amplitude. `kernelLabel` is the smoothed label as the kernel builds
  it (precomputed column values, overwritten one after the other), `labelWith` as the references build it (a base
  distribution plus a scattered bias); the bias is `scat` when the four updates are written in the order 1, 0, 2, 3 and
  `scatPlain` when they are written in the order 0, 1, 2, 3. The theorems say that the kernel's label is the one with `scat`,
  and that the two biases are equal where updates 0 and 1 do not compete for a column.
-/
module

public import Idealize.ShloMosaic.PureOps.Ideal
public import Idealize.ShloMosaic.PureOps.Ideal.Laws
public import Idealize.ShloMosaic.Lib.IdealHost

@[expose] public section

noncomputable section

namespace Cert.Elem

open Idealize.ShloMosaic

/-- What one row of the result depends on besides the prediction. -/
structure Row where
  tgt : BitVec 32
  bt : Fin 4 → BitVec 32
  o : Fin 4 → EReal
  q : EReal

/-- The smoothing floor's literal. -/
def eps : EReal := Ideal.ofBits .f32 0x3727C5AC#32
/-- The target factor's literal. -/
def fac : EReal := Ideal.ofBits .f32 0x3F666666#32
/-- The smoothing mass's literal. -/
def mass : EReal := Ideal.ofBits .f32 0x3DCCCCCD#32
/-- The number of ordinary columns' literal. -/
def cols : EReal := Ideal.ofBits .f32 0x457FE000#32
/-- The literal one. -/
def one : EReal := Ideal.ofBits .f32 0x3F800000#32
/-- The literal zero. -/
def zero : EReal := Ideal.ofBits .f32 0x00000000#32

/-- The literal zero is the number zero. -/
theorem zero_eq : zero = 0 := by exact Ideal.ofBits_zero_f32
/-- The literal one is the number one. -/
theorem one_eq : one = 1 := by exact Ideal.ofBits_one_f32

namespace Row

variable (R : Row)

/-- The target's amplitude. -/
def amp : EReal := fac * (one - R.q)

/-- The kernel's value in the target column, the bias left out. -/
def tval : EReal := if R.tgt = 0#32 then eps else R.amp + eps
/-- The kernel's value in an ordinary column. -/
def crow : EReal := if R.tgt = 0#32 then eps else Ideal.div mass cols + eps
/-- The kernel's scaled offset of biased target `k`. -/
def no (k : Fin 4) : EReal := if R.tgt = 0#32 then zero else fac * R.o k
/-- The kernel's value in the column of biased target `k`. -/
def fbt (k : Fin 4) : EReal :=
  if R.tgt = 0#32 then eps
  else (if R.bt k = 0#32 then eps else if R.bt k = R.tgt then R.tval else R.crow) + R.no k
/-- The kernel's bias in column 0. -/
def bias0 : EReal :=
  if R.bt 3 = 0#32 then R.no 3 else if R.bt 2 = 0#32 then R.no 2
  else if R.bt 0 = 0#32 then R.no 0 else if R.bt 1 = 0#32 then R.no 1 else zero
/-- The kernel's value in column 0. -/
def f0 : EReal := if R.tgt = 0#32 then eps else eps + R.bias0

/-- The kernel's label in column `C`. -/
def kernelLabel (C : BitVec 32) : EReal :=
  if C = 0#32 then R.f0 else if C = R.bt 3 then R.fbt 3 else if C = R.bt 2 then R.fbt 2
  else if C = R.bt 0 then R.fbt 0 else if C = R.bt 1 then R.fbt 1
  else if C = R.tgt then R.tval else R.crow

/-- The bias scattered into column `C`, the updates written in the order 1, 0, 2, 3. -/
def scat (C : BitVec 32) : EReal :=
  if C = R.bt 3 then R.o 3 * fac else if C = R.bt 2 then R.o 2 * fac
  else if C = R.bt 0 then R.o 0 * fac else if C = R.bt 1 then R.o 1 * fac else zero
/-- The bias scattered into column `C`, the updates written in the order 0, 1, 2, 3. -/
def scatPlain (C : BitVec 32) : EReal :=
  if C = R.bt 3 then R.o 3 * fac else if C = R.bt 2 then R.o 2 * fac
  else if C = R.bt 1 then R.o 1 * fac else if C = R.bt 0 then R.o 0 * fac else zero

/-- The reference's label in column `C` when the bias there is `s`. -/
def labelWith (s : EReal) (C : BitVec 32) : EReal :=
  (if R.tgt = 0#32 then zero
   else (if C = 0#32 then zero else if C = R.tgt then R.amp else Ideal.div (mass * one) cols) + s) + eps

/-- The kernel's label is the reference's, the updates written in the order 1, 0, 2, 3. -/
theorem kernelLabel_eq (C : BitVec 32) : R.kernelLabel C = R.labelWith (R.scat C) C := by
  by_cases hp : R.tgt = 0#32
  · simp [kernelLabel, labelWith, f0, fbt, tval, crow, hp, zero_eq]
  by_cases h0 : C = 0#32
  · subst h0
    simp only [kernelLabel, labelWith, f0, bias0, scat, no, if_neg hp, if_true, zero_eq, zero_add, mul_comm fac,
      eq_comm (a := 0#32), add_comm eps]
  simp only [kernelLabel, labelWith, scat, fbt, no, tval, crow, if_neg hp, if_neg h0, zero_eq, one_eq, mul_one, mul_comm fac]
  have key : ∀ b : BitVec 32, ∀ x : EReal, C = b →
      (if b = 0#32 then eps else if b = R.tgt then R.amp + eps else Ideal.div mass cols + eps) + x =
        (if C = R.tgt then R.amp else Ideal.div mass cols) + x + eps := by
    intro b x hb
    subst hb
    rw [if_neg h0]
    split_ifs <;> rw [add_right_comm]
  by_cases h3 : C = R.bt 3
  · simp only [if_pos h3]; exact key _ _ h3
  by_cases h2 : C = R.bt 2
  · simp only [if_neg h3, if_pos h2]; exact key _ _ h2
  by_cases h0 : C = R.bt 0
  · simp only [if_neg h3, if_neg h2, if_pos h0]; exact key _ _ h0
  by_cases h1 : C = R.bt 1
  · simp only [if_neg h3, if_neg h2, if_neg h0, if_pos h1]; exact key _ _ h1
  simp only [if_neg h3, if_neg h2, if_neg h0, if_neg h1, add_zero]
  split_ifs <;> rfl

/-- The two orders scatter one bias when biased targets 0 and 1 differ, or a later one repeats them. -/
theorem scatPlain_eq (C : BitVec 32) (h : R.bt 0 ≠ R.bt 1 ∨ R.bt 0 = R.bt 2 ∨ R.bt 0 = R.bt 3) :
    R.scatPlain C = R.scat C := by
  unfold scatPlain scat
  by_cases h3 : C = R.bt 3
  · simp [h3]
  by_cases h2 : C = R.bt 2
  · simp [h2]
  simp only [if_neg h3, if_neg h2]
  by_cases h0 : C = R.bt 0 <;> by_cases h1 : C = R.bt 1 <;> simp only [h0, h1, if_true, if_false]
  all_goals simp_all

end Row

end Cert.Elem

end
-- ==== Proof.Rows.lean ====
/-
  A row of the result, in the arguments' coordinates: row `r` of the 8192 is position `(r / 2048, r % 2048)`, and the offset
  that sets its target's amplitude is the flat element `24576 + r` of the 32768 offsets. `select_eq`: a select on an equality
  of words is the conditional.
-/
module

public import proofs.«01_k».proof.Proof.Elem
public import Idealize.ShloMosaic.Lib.Routing.Shapes

@[expose] public section

noncomputable section

namespace Cert.Elem

open Idealize.ShloMosaic Idealize.ShloMosaic.ValueIdx Idealize.ShloMosaic.Routing

/-- The batch of row `r`. -/
def batch (r : Fin 8192) : Fin 4 := ⟨r.val / 2048, by omega⟩
/-- The place of row `r` in its batch. -/
def place (r : Fin 8192) : Fin 2048 := ⟨r.val % 2048, by omega⟩
/-- The place, in the last batch of offsets, of the offset that sets row `r`'s amplitude. -/
def ampPlace (r : Fin 8192) : Fin 2048 := ⟨r.val / 4, by omega⟩
/-- Which of the four offsets at that place it is. -/
def ampSlot (r : Fin 8192) : Fin 4 := ⟨r.val % 4, by omega⟩

/-- Row `r`'s data, read off the arguments. -/
def rowOf (x1 : IVec (shape2 4 2048) 32) (x2 : IVec (shape3 4 2048 4) 32) (x3 : FVec Ideal (shape3 4 2048 4) .f32) (r : Fin 8192) : Row where
  tgt := x1 (ix2 (batch r) (place r))
  bt k := x2 (ix3 (batch r) (place r) k)
  o k := x3 (ix3 (batch r) (place r) k)
  q := x3 (ix3 (3 : Fin 4) (ampPlace r) (ampSlot r))

/-- Row `r`'s prediction in column `c`. -/
def predOf (x0 : FVec Ideal (shape3 4 2048 4096) .f32) (r : Fin 8192) (c : Fin 4096) : EReal := x0 (ix3 (batch r) (place r) c)

/-- A select on an equality of two words is the conditional on that equality. -/
theorem select_eq {α : Type} {w : Nat} (a b : BitVec w) (x y : α) :
    Scalar.select (IntOp.cmpi .eq a b) x y = if a = b then x else y := by
  unfold Scalar.select IntOp.cmpi
  by_cases h : a = b
  · subst h; simp
  · have e : (a == b) = false := beq_eq_false_iff_ne.2 h
    show (if BitVec.ofBool (a == b) = 1 then x else y) = if a = b then x else y
    rw [e, if_neg h]
    exact if_neg (by decide)

/-- The divergence of a label from a prediction. -/
def diverge (t p : EReal) : EReal := t * (Ideal.log t - p)

end Cert.Elem

end
-- ==== Proof.KernelBlock.lean ====
/-
  What one block of the kernel computes: in row `p` and column `c` it takes the label that its index words and label columns
  name for the column's word, and stores the divergence of that label from the prediction.
-/
module

public import proofs.«01_k».proof.Proof.Gen.KernelIdeal.Value
public import proofs.«01_k».proof.Proof.Rows
public import Idealize.ShloMosaic.Lib.ValueIdx
public import Idealize.ShloMosaic.Lib.Pipeline.ValueKit

@[expose] public section

noncomputable section

namespace Cert.KernelIdeal.Block

open Cert.KernelIdeal Cert.KernelIdeal.Gen
open Idealize.ShloMosaic hiding ix1 ix2 ix3 ix4
open Idealize.ShloMosaic.ValueIdx Cert.Elem

/-- A column of 512 spread over the columns of the block holds, in a row, that row's entry. -/
theorem spread_at {α : Type} (x : S512x1.Idx → α) (h : S512x1.Broadcasts S512x4096) (p : Fin 512) (c : Fin 4096) :
    broadcastTo S512x4096 x h (ix2 p c) = x (ix2 p 0) :=
  broadcastTo_apply x h (ix2 p c) (ix2 p 0) (fun a => match a with
    | ⟨0, _⟩ => rfl
    | ⟨1, _⟩ => rfl)

/-- The column number of a place, as a word. -/
theorem column_at (p : Fin 512) (c : Fin 4096) :
    iota .tc S512x4096 32 [1] iota_S512x4096_d1_w32 (ix2 p c) = BitVec.ofNat 32 c.val := by
  show BitVec.ofNat 32 (0 * 4096 + c.val) = _
  rw [Nat.zero_mul, Nat.zero_add]

/-- A comparison of words at a place. -/
theorem cmpi_at {s : Shape} {w : Nat} (q : CmpIPredicate) (x y : IVec s w) (i : s.Idx) : cmpi q x y i = IntOp.cmpi q (x i) (y i) := rfl

/-- The first four conditionals of the body. -/
theorem pay2_at (v1 : Vec Ideal S512x1 .i32) (v5 v7 : Vec Ideal S512x1 .f32) (v14 : Vec Ideal S512x1 .i32) (v18 : Vec Ideal S512x1 .f32)
    (v23 : Vec Ideal S512x1 .i32) (v27 : Vec Ideal S512x1 .f32) (v32 : Vec Ideal S512x1 .i32) (v36 : Vec Ideal S512x1 .f32)
    (p : Fin 512) (c : Fin 4096) :
    k0_pay2 v1 v5 v7 v14 v18 v23 v27 v32 v36 (ix2 p c)
      = if BitVec.ofNat 32 c.val = v32 (ix2 p 0) then v36 (ix2 p 0) else
        if BitVec.ofNat 32 c.val = v23 (ix2 p 0) then v27 (ix2 p 0) else
        if BitVec.ofNat 32 c.val = v14 (ix2 p 0) then v18 (ix2 p 0) else
        if BitVec.ofNat 32 c.val = v1 (ix2 p 0) then v5 (ix2 p 0) else v7 (ix2 p 0) := by
  simp only [k0_pay2, shapeCast_self, select_apply, cmpi_at, spread_at, select_eq]
  rw [column_at]

/-- The last two conditionals of the body, and the divergence. -/
theorem pay1_at (v40 : FVec Ideal S512x4096 .f32) (v41 : Vec Ideal S512x1 .i32) (v45 : Vec Ideal S512x1 .f32) (v50 : Vec Ideal S512x1 .i32)
    (v54 : Vec Ideal S512x1 .f32) (v60 : Vec Ideal S512x4096 .f32) (p : Fin 512) (c : Fin 4096) :
    k0_pay1 (iota .tc S512x4096 32 [1] iota_S512x4096_d1_w32) v40 v41 v45 v50 v54 v60 (ix2 p c)
      = diverge (if BitVec.ofNat 32 c.val = v50 (ix2 p 0) then v54 (ix2 p 0) else
          if BitVec.ofNat 32 c.val = v41 (ix2 p 0) then v45 (ix2 p 0) else v40 (ix2 p c)) (v60 (ix2 p c)) := by
  have e : ∀ t q : FVec Ideal S512x4096 .f32, mulf t (subf (log t) q) (ix2 p c) = diverge (t (ix2 p c)) (q (ix2 p c)) := fun _ _ => rfl
  simp only [k0_pay1, e, shapeCast_self, select_apply, cmpi_at, spread_at, select_eq]
  rw [column_at]

/-- A load of one column reads that column. -/
theorem ld_col {e : EltTy} (x : S512x8.Idx → Elt Ideal e) (n : Nat) (h : ∀ a, (![0, n] : Fin 2 → Nat) a + S512x1.size a ≤ S512x8.size a)
    (k : Fin 8) (hk : k.val = n) (p : Fin 512) :
    View.ld (Val := Elt Ideal) (e' := e) x (Rect.unit (s := S512x8) ![0, n] S512x1.size h) (ix2 p 0) = x (ix2 p k) :=
  congrArg x (funext fun a => Fin.ext (match a with
    | ⟨0, _⟩ => by
      show 0 + 1 * p.val = p.val
      omega
    | ⟨1, _⟩ => by
      show n + 1 * 0 = k.val
      omega))

/-- The block's result in row `p` and column `c`, from the index words, the label columns and the predictions of its rows. -/
theorem block_at (x0 : Vec Ideal S512x4096 .f32) (x1 : Vec Ideal S512x8 .i32) (x2 : Vec Ideal S512x8 .f32) (p : Fin 512) (c : Fin 4096) :
    out0_3 x0 x1 x2 (ix2 p c)
      = diverge (if BitVec.ofNat 32 c.val = x1 (ix2 p 5) then x2 (ix2 p 5) else
          if BitVec.ofNat 32 c.val = x1 (ix2 p 4) then x2 (ix2 p 4) else
          if BitVec.ofNat 32 c.val = x1 (ix2 p 3) then x2 (ix2 p 3) else
          if BitVec.ofNat 32 c.val = x1 (ix2 p 1) then x2 (ix2 p 1) else
          if BitVec.ofNat 32 c.val = x1 (ix2 p 2) then x2 (ix2 p 2) else
          if BitVec.ofNat 32 c.val = x1 (ix2 p 0) then x2 (ix2 p 0) else x2 (ix2 p 6)) (x0 (ix2 p c)) := by
  have hz : (![0, 0] : Fin 2 → Nat) = fun _ => 0 := funext fun a => match a with
    | ⟨0, _⟩ => rfl
    | ⟨1, _⟩ => rfl
  unfold out0_3
  rw [View.canon_unit_zero hz, pay1_at, pay2_at, View.ld_unit_zero hz]
  have i0 := ld_col x1 0 inb_S512x8_S512x1_0_0 0 rfl p
  have i1 := ld_col x1 1 inb_S512x8_S512x1_0_1 1 rfl p
  have i2 := ld_col x1 2 inb_S512x8_S512x1_0_2 2 rfl p
  have i3 := ld_col x1 3 inb_S512x8_S512x1_0_3 3 rfl p
  have i4 := ld_col x1 4 inb_S512x8_S512x1_0_4 4 rfl p
  have i5 := ld_col x1 5 inb_S512x8_S512x1_0_5 5 rfl p
  have f0 := ld_col x2 0 inb_S512x8_S512x1_0_0 0 rfl p
  have f1 := ld_col x2 1 inb_S512x8_S512x1_0_1 1 rfl p
  have f2 := ld_col x2 2 inb_S512x8_S512x1_0_2 2 rfl p
  have f3 := ld_col x2 3 inb_S512x8_S512x1_0_3 3 rfl p
  have f4 := ld_col x2 4 inb_S512x8_S512x1_0_4 4 rfl p
  have f5 := ld_col x2 5 inb_S512x8_S512x1_0_5 5 rfl p
  have f6 := ld_col x2 6 inb_S512x8_S512x1_0_6 6 rfl p
  rw [i0, i1, i2, i3, i4, i5, f0, f1, f2, f3, f4, f5, f6]

end Cert.KernelIdeal.Block

end
-- ==== Proof.HostValue.lean ====
/-
  What the kernel's host prologue leaves in the three arrays the launch reads, as functions of the four arguments: the
  prediction as 8192 rows, the eight columns of index words and the eight columns of precomputed labels.
-/
module

public import proofs.«01_k».proof.Proof.Gen.KernelIdeal.Value
public import Idealize.ShloMosaic.Lib.StableHlo.RunRead

@[expose] public section

noncomputable section

namespace Cert.KernelIdeal.Host

open Cert.KernelIdeal Cert.KernelIdeal.Gen Idealize.ShloMosaic Idealize.ShloMosaic.TcCoe Idealize.SL.Sem

variable {F : FTy → Type} [FloatOps F]

section Stages

/-- One literal down a column. -/
def lit1 (w : BitVec 32) : FVec F S8192x1 .f32 := broadcastInDim S8192x1 ![] bcast_S_S8192x1 (constant (F := F) S_ .f32 w)
/-- One literal in four columns. -/
def lit4 (w : BitVec 32) : FVec F S8192x4 .f32 := broadcastInDim S8192x4 ![] bcast_S_S8192x4 (constant (F := F) S_ .f32 w)
/-- The zero word down a column. -/
def zw1 : IVec S8192x1 32 := broadcastInDim S8192x1 ![] bcast_S_S8192x1 (constantI S_ 32 0#32)
/-- The zero word in four columns. -/
def zw4 : IVec S8192x4 32 := broadcastInDim S8192x4 ![] bcast_S_S8192x4 (constantI S_ 32 0#32)
/-- One column four times. -/
def four {α : Type} (x : S8192x1.Idx → α) : S8192x4.Idx → α := broadcastInDim S8192x4 ![0, 1] bcast_S8192x1_S8192x4_0_1 x

/-- The target words, one row each. -/
def tgt (x1 : IVec S4x2048 32) : IVec S8192x1 32 := shapeCast S8192x1 x1 shapeCasts_S4x2048_S8192x1
/-- Whether a row's target is the padding index. -/
def pad (x1 : IVec S4x2048 32) : IVec S8192x1 1 := cmpi .eq (tgt x1) zw1
/-- The biased-target words, four to a row. -/
def bt (x2 : IVec S4x2048x4 32) : IVec S8192x4 32 := shapeCast S8192x4 x2 shapeCasts_S4x2048x4_S8192x4
/-- The target's amplitude of each row. -/
def amp (x3 : FVec F S4x2048x4 .f32) : FVec F S8192x1 .f32 :=
  shapeCast S8192x1
    (mulf (broadcastInDim S8192 ![] bcast_S_S8192 (constant (F := F) S_ .f32 0x3F666666#32))
      (subf (broadcastInDim S8192 ![] bcast_S_S8192 (constant (F := F) S_ .f32 0x3F800000#32))
        (extractStridedSlice S8192 ![24576] (shapeCast S32768 x3 shapeCasts_S4x2048x4_S32768) slices_S32768_S8192_24576)))
    shapeCasts_S8192_S8192x1
/-- The label in the target column, the bias left out. -/
def tval (x1 : IVec S4x2048 32) (x3 : FVec F S4x2048x4 .f32) : FVec F S8192x1 .f32 :=
  select (pad x1) (lit1 0x3727C5AC#32) (addf (amp x3) (lit1 0x3727C5AC#32))
/-- The label in an ordinary column. -/
def crow (x1 : IVec S4x2048 32) : FVec F S8192x1 .f32 :=
  select (pad x1) (lit1 0x3727C5AC#32)
    (broadcastInDim S8192x1 ![] bcast_S_S8192x1
      (addf (Host.divf (constant (F := F) S_ .f32 0x3DCCCCCD#32) (constant (F := F) S_ .f32 0x457FE000#32)) (constant (F := F) S_ .f32 0x3727C5AC#32)))
/-- The scaled offsets, four to a row. -/
def no (x1 : IVec S4x2048 32) (x3 : FVec F S4x2048x4 .f32) : FVec F S8192x4 .f32 :=
  select (four (pad x1)) (lit4 0x00000000#32)
    (shapeCast S8192x4 (mulf (broadcastInDim S4x2048x4 ![] bcast_S_S4x2048x4 (constant (F := F) S_ .f32 0x3F666666#32)) x3) shapeCasts_S4x2048x4_S8192x4)
/-- The labels in the biased targets' columns. -/
def fbt (x1 : IVec S4x2048 32) (x2 : IVec S4x2048x4 32) (x3 : FVec F S4x2048x4 .f32) : FVec F S8192x4 .f32 :=
  select (four (pad x1)) (lit4 0x3727C5AC#32)
    (addf
      (select (cmpi .eq (bt x2) zw4) (lit4 0x3727C5AC#32)
        (select (cmpi .eq (bt x2) (four (tgt x1))) (four (tval x1 x3)) (four (crow x1))))
      (no x1 x3))
/-- The bias in column 0. -/
def bias0 (x1 : IVec S4x2048 32) (x2 : IVec S4x2048x4 32) (x3 : FVec F S4x2048x4 .f32) : FVec F S8192x1 .f32 :=
  select (cmpi .eq (extractStridedSlice S8192x1 ![0, 3] (bt x2) slices_S8192x4_S8192x1_0_3) zw1)
    (extractStridedSlice S8192x1 ![0, 3] (no x1 x3) slices_S8192x4_S8192x1_0_3)
    (select (cmpi .eq (extractStridedSlice S8192x1 ![0, 2] (bt x2) slices_S8192x4_S8192x1_0_2) zw1)
      (extractStridedSlice S8192x1 ![0, 2] (no x1 x3) slices_S8192x4_S8192x1_0_2)
      (select (cmpi .eq (extractStridedSlice S8192x1 ![0, 0] (bt x2) slices_S8192x4_S8192x1_0_0) zw1)
        (extractStridedSlice S8192x1 ![0, 0] (no x1 x3) slices_S8192x4_S8192x1_0_0)
        (select (cmpi .eq (extractStridedSlice S8192x1 ![0, 1] (bt x2) slices_S8192x4_S8192x1_0_1) zw1)
          (extractStridedSlice S8192x1 ![0, 1] (no x1 x3) slices_S8192x4_S8192x1_0_1)
          (lit1 0x00000000#32))))
/-- The label in column 0. -/
def f0 (x1 : IVec S4x2048 32) (x2 : IVec S4x2048x4 32) (x3 : FVec F S4x2048x4 .f32) : FVec F S8192x1 .f32 :=
  select (pad x1) (lit1 0x3727C5AC#32) (addf (lit1 0x3727C5AC#32) (bias0 x1 x2 x3))

/-- Index words side by side: a column, four columns, a column, two columns. -/
def icols {F : FTy → Type} [FloatOps F] (a : (⟨S8192x1, .i32⟩ : BufTy).Contents (Elt F)) (b : (⟨S8192x4, .i32⟩ : BufTy).Contents (Elt F))
    (d : (⟨S8192x1, .i32⟩ : BufTy).Contents (Elt F)) (e : (⟨S8192x2, .i32⟩ : BufTy).Contents (Elt F)) : (⟨S8192x8, .i32⟩ : BufTy).Contents (Elt F) :=
  concatenate S8192x8 1 [⟨S8192x1, a⟩, ⟨S8192x4, b⟩, ⟨S8192x1, d⟩, ⟨S8192x2, e⟩]
    concatenates_S8192x1_S8192x4_S8192x1_S8192x2_S8192x8_d1
/-- Labels side by side: a column, four columns, three columns. -/
def fvals {F : FTy → Type} [FloatOps F] (a : (⟨S8192x1, .f32⟩ : BufTy).Contents (Elt F)) (b : (⟨S8192x4, .f32⟩ : BufTy).Contents (Elt F))
    (d e g : (⟨S8192x1, .f32⟩ : BufTy).Contents (Elt F)) : (⟨S8192x8, .f32⟩ : BufTy).Contents (Elt F) :=
  concatenate S8192x8 1 [⟨S8192x1, a⟩, ⟨S8192x4, b⟩, ⟨S8192x1, d⟩, ⟨S8192x1, e⟩, ⟨S8192x1, g⟩]
    concatenates_S8192x1_S8192x4_S8192x1_S8192x1_S8192x1_S8192x8_d1

end Stages

variable (m : (ℓ : Loc nD τ sig) → Buf (Elt F) ℓ) (c : Dev nD)

/-- The prediction argument on a device. -/
abbrev A0 : FVec F S4x2048x4096 .f32 := m (c, Proc.tc.devRef main_arg0)
/-- The target argument on a device. -/
abbrev A1 : IVec S4x2048 32 := m (c, Proc.tc.devRef main_arg1)
/-- The biased-target argument on a device. -/
abbrev A2 : IVec S4x2048x4 32 := m (c, Proc.tc.devRef main_arg2)
/-- The biased-offset argument on a device. -/
abbrev A3 : FVec F S4x2048x4 .f32 := m (c, Proc.tc.devRef main_arg3)

/-- The launch's first array is the prediction, as 8192 rows. -/
theorem V_pred : (V m c main_v1 : FVec F S8192x4096 .f32) = shapeCast S8192x4096 (A0 m c) shapeCasts_S4x2048x4096_S8192x4096 := by
  unfold_abbrev_sides
  after_reads_simp
  rfl

/-- The launch's second array is the columns of index words: target, biased targets, zeros. -/
theorem V_icols : (V m c main_v56 : IVec S8192x8 32)
    = icols (F := F) (tgt (A1 m c)) (bt (A2 m c)) zw1 (broadcastInDim S8192x2 ![] bcast_S_S8192x2 (constantI S_ 32 0#32)) := by
  unfold_abbrev_sides
  after_reads_simp
  change icols (StableHlo.upto _ _ _ (Proc.tc.devRef main_v2)) (StableHlo.upto _ _ _ (Proc.tc.devRef main_v17))
    (StableHlo.upto _ _ _ (Proc.tc.devRef main_v54)) (StableHlo.upto _ _ _ (Proc.tc.devRef main_v55)) = _
  after_reads_simp
  rfl

/-- The launch's third array is the columns of labels. -/
theorem V_fvals : (V m c main_v58 : FVec F S8192x8 .f32)
    = fvals (tval (A1 m c) (A3 m c)) (fbt (A1 m c) (A2 m c) (A3 m c)) (f0 (A1 m c) (A2 m c) (A3 m c)) (crow (A1 m c)) (lit1 0x00000000#32) := by
  unfold_abbrev_sides
  after_reads_simp
  change fvals (StableHlo.upto _ _ _ (Proc.tc.devRef main_v14)) (StableHlo.upto _ _ _ (Proc.tc.devRef main_v29))
    (StableHlo.upto _ _ _ (Proc.tc.devRef main_v53)) (StableHlo.upto _ _ _ (Proc.tc.devRef main_v16))
    (StableHlo.upto _ _ _ (Proc.tc.devRef main_v57)) = _
  after_reads_simp
  simp -implicitDefEqProofs only [StableHlo.TRef.toBuf, StableHlo.TRef.ofBuf, cast_cast, cast_eq]
  unfold fbt f0 bias0 no tval crow amp four lit1 lit4 zw1 zw4 pad bt tgt
  rfl

end Cert.KernelIdeal.Host

end
-- ==== Proof.HostElem.lean ====
/-
  The kernel's host arrays read at a row: the columns of index words and of labels that the launch reads hold, in row `r`,
  the words of the row's data and the values of `Cert.Elem.Row`.
-/
module

public import proofs.«01_k».proof.Proof.HostValue
public import proofs.«01_k».proof.Proof.Rows
public import Idealize.ShloMosaic.Lib.ValueIdx
public import Idealize.ShloMosaic.Lib.Pointwise

@[expose] public section

noncomputable section

namespace Cert.KernelIdeal.Host

open Cert.KernelIdeal Cert.KernelIdeal.Gen
open Idealize.ShloMosaic hiding ix1 ix2 ix3 ix4
open Idealize.ShloMosaic.ValueIdx Cert.Elem

/-- A splatted literal at any place. -/
theorem lit1_at (w : BitVec 32) (i : S8192x1.Idx) : lit1 (F := Ideal) w i = Ideal.ofBits .f32 w := rfl
/-- A splatted literal at any place. -/
theorem lit4_at (w : BitVec 32) (i : S8192x4.Idx) : lit4 (F := Ideal) w i = Ideal.ofBits .f32 w := rfl
/-- A repeated column at a row. -/
theorem four_at {α : Type} (x : S8192x1.Idx → α) (r : Fin 8192) (k : Fin 4) : four x (ix2 r k) = x (ix2 r 0) := by
  unfold four
  exact broadcastInDim_apply _ bcast_S8192x1_S8192x4_0_1 x (ix2 r k) (ix2 r 0) (fun a => match a with
    | ⟨0, _⟩ => rfl
    | ⟨1, _⟩ => rfl)

variable (x1 : IVec S4x2048 32) (x2 : IVec S4x2048x4 32) (x3 : FVec Ideal S4x2048x4 .f32) (r : Fin 8192)

/-- The target word of a row. -/
theorem tgt_at : tgt x1 (ix2 r 0) = (rowOf x1 x2 x3 r).tgt := by
  unfold tgt
  refine shapeCast_apply x1 shapeCasts_S4x2048_S8192x1 (ix2 r 0) (ix2 (batch r) (place r)) ?_
  rw [Shape.rowMajor_val_two, Shape.rowMajor_val_two]
  show r.val / 2048 * 2048 + r.val % 2048 = r.val * 1 + 0
  omega
/-- A biased-target word of a row. -/
theorem bt_at (k : Fin 4) : bt x2 (ix2 r k) = (rowOf x1 x2 x3 r).bt k := by
  unfold bt
  refine shapeCast_apply x2 shapeCasts_S4x2048x4_S8192x4 (ix2 r k) (ix3 (batch r) (place r) k) ?_
  rw [Shape.rowMajor_val_three, Shape.rowMajor_val_two]
  show (r.val / 2048 * 2048 + r.val % 2048) * 4 + k.val = r.val * 4 + k.val
  omega
/-- The target's amplitude of a row. -/
theorem amp_at : amp x3 (ix2 r 0) = (rowOf x1 x2 x3 r).amp := by
  unfold amp
  rw [shapeCast_apply _ shapeCasts_S8192_S8192x1 (ix2 r 0) (ix1 r) (by
    rw [Shape.rowMajor_val_one, Shape.rowMajor_val_two]
    show r.val = r.val * 1 + 0
    omega)]
  rw [mulf_apply, subf_apply, extractStridedSlice_apply _ _ slices_S32768_S8192_24576 (ix1 r) (ix1 ⟨24576 + r.val, by omega⟩) (fun a => match a with
    | ⟨0, _⟩ => rfl)]
  rw [shapeCast_apply x3 shapeCasts_S4x2048x4_S32768 (ix1 ⟨24576 + r.val, by omega⟩) (ix3 (3 : Fin 4) (ampPlace r) (ampSlot r)) (by
    rw [Shape.rowMajor_val_one, Shape.rowMajor_val_three]
    show (3 * 2048 + r.val / 4) * 4 + r.val % 4 = 24576 + r.val
    omega)]
  rfl
/-- A select on a row's padding bit. -/
theorem pad_at {α : Type} (x y : α) : Scalar.select (pad x1 (ix2 r 0)) x y = if (rowOf x1 x2 x3 r).tgt = 0#32 then x else y := by
  rw [← tgt_at x1 x2 x3 r]
  exact select_eq _ _ _ _
/-- The label in the target column. -/
theorem tval_at : tval x1 x3 (ix2 r 0) = (rowOf x1 x2 x3 r).tval := by
  unfold tval
  rw [select_apply, pad_at x1 x2 x3 r, addf_apply, amp_at x1 x2 x3 r, lit1_at]
  rfl
/-- The label in an ordinary column. -/
theorem crow_at : crow (F := Ideal) x1 (ix2 r 0) = (rowOf x1 x2 x3 r).crow := by
  unfold crow
  rw [select_apply, pad_at x1 x2 x3 r, lit1_at]
  rfl
/-- A scaled offset of a row. -/
theorem no_at (k : Fin 4) : no x1 x3 (ix2 r k) = (rowOf x1 x2 x3 r).no k := by
  unfold no
  rw [select_apply, four_at, pad_at x1 x2 x3 r, lit4_at, shapeCast_apply _ shapeCasts_S4x2048x4_S8192x4 (ix2 r k) (ix3 (batch r) (place r) k) (by
    rw [Shape.rowMajor_val_three, Shape.rowMajor_val_two]
    show (r.val / 2048 * 2048 + r.val % 2048) * 4 + k.val = r.val * 4 + k.val
    omega)]
  rfl
/-- The label in a biased target's column. -/
theorem fbt_at (k : Fin 4) : fbt x1 x2 x3 (ix2 r k) = (rowOf x1 x2 x3 r).fbt k := by
  unfold fbt
  rw [select_apply, four_at, pad_at x1 x2 x3 r, lit4_at, addf_apply, no_at x1 x2 x3 r, select_apply, select_apply, four_at, four_at,
    tval_at x1 x2 x3 r, crow_at x1 x2 x3 r]
  show (if _ then _ else Scalar.select (IntOp.cmpi .eq (bt x2 (ix2 r k)) 0#32) _
    (Scalar.select (IntOp.cmpi .eq (bt x2 (ix2 r k)) (four (tgt x1) (ix2 r k))) _ _) + _) = _
  rw [four_at, bt_at x1 x2 x3 r, tgt_at x1 x2 x3 r, select_eq, select_eq]
  rfl
/-- A select on whether biased target `k` is column 0, between that target's offset and another value. -/
theorem pick_at (k : Fin 4) (n : Nat) (hn : n = k.val) (h : S8192x4.Slices ![0, n] S8192x1) (y : FVec Ideal S8192x1 .f32) :
    select (cmpi .eq (extractStridedSlice S8192x1 ![0, n] (bt x2) h) zw1) (extractStridedSlice S8192x1 ![0, n] (no x1 x3) h) y (ix2 r 0)
      = if (rowOf x1 x2 x3 r).bt k = 0#32 then (rowOf x1 x2 x3 r).no k else y (ix2 r 0) := by
  have e : ∀ {α : Type} (x : S8192x4.Idx → α), extractStridedSlice S8192x1 ![0, n] x h (ix2 r 0) = x (ix2 r k) := fun x =>
    extractStridedSlice_apply _ x h (ix2 r 0) (ix2 r k) (fun a => match a with
      | ⟨0, _⟩ => (Nat.zero_add _).symm
      | ⟨1, _⟩ => hn.symm)
  show Scalar.select (IntOp.cmpi .eq (extractStridedSlice S8192x1 ![0, n] (bt x2) h (ix2 r 0)) 0#32)
    (extractStridedSlice S8192x1 ![0, n] (no x1 x3) h (ix2 r 0)) (y (ix2 r 0)) = _
  rw [e, e, select_eq, bt_at x1 x2 x3 r, no_at x1 x2 x3 r]
/-- The label in column 0. -/
theorem f0_at : f0 x1 x2 x3 (ix2 r 0) = (rowOf x1 x2 x3 r).f0 := by
  unfold f0
  rw [select_apply, pad_at x1 x2 x3 r, lit1_at, addf_apply, lit1_at]
  unfold bias0
  rw [pick_at x1 x2 x3 r 3 3 rfl slices_S8192x4_S8192x1_0_3, pick_at x1 x2 x3 r 2 2 rfl slices_S8192x4_S8192x1_0_2,
    pick_at x1 x2 x3 r 0 0 rfl slices_S8192x4_S8192x1_0_0, pick_at x1 x2 x3 r 1 1 rfl slices_S8192x4_S8192x1_0_1, lit1_at]
  rfl

section Columns

variable (a : IVec S8192x1 32) (b : IVec S8192x4 32) (d : IVec S8192x1 32) (e : IVec S8192x2 32)

/-- Column 0 of the index words. -/
theorem icols_0 : icols (F := Ideal) a b d e (ix2 r 0) = a (ix2 r 0) := by
  unfold icols
  pointwise
  rfl
/-- Column 1 of the index words. -/
theorem icols_1 : icols (F := Ideal) a b d e (ix2 r 1) = b (ix2 r 0) := by
  unfold icols
  pointwise
  rfl
/-- Column 2 of the index words. -/
theorem icols_2 : icols (F := Ideal) a b d e (ix2 r 2) = b (ix2 r 1) := by
  unfold icols
  pointwise
  rfl
/-- Column 3 of the index words. -/
theorem icols_3 : icols (F := Ideal) a b d e (ix2 r 3) = b (ix2 r 2) := by
  unfold icols
  pointwise
  rfl
/-- Column 4 of the index words. -/
theorem icols_4 : icols (F := Ideal) a b d e (ix2 r 4) = b (ix2 r 3) := by
  unfold icols
  pointwise
  rfl
/-- Column 5 of the index words. -/
theorem icols_5 : icols (F := Ideal) a b d e (ix2 r 5) = d (ix2 r 0) := by
  unfold icols
  pointwise
  rfl

variable (f : FVec Ideal S8192x1 .f32) (g : FVec Ideal S8192x4 .f32) (p q z : FVec Ideal S8192x1 .f32)

/-- Column 0 of the labels. -/
theorem fvals_0 : fvals (F := Ideal) f g p q z (ix2 r 0) = f (ix2 r 0) := by
  unfold fvals
  pointwise
  rfl
/-- Column 1 of the labels. -/
theorem fvals_1 : fvals (F := Ideal) f g p q z (ix2 r 1) = g (ix2 r 0) := by
  unfold fvals
  pointwise
  rfl
/-- Column 2 of the labels. -/
theorem fvals_2 : fvals (F := Ideal) f g p q z (ix2 r 2) = g (ix2 r 1) := by
  unfold fvals
  pointwise
  rfl
/-- Column 3 of the labels. -/
theorem fvals_3 : fvals (F := Ideal) f g p q z (ix2 r 3) = g (ix2 r 2) := by
  unfold fvals
  pointwise
  rfl
/-- Column 4 of the labels. -/
theorem fvals_4 : fvals (F := Ideal) f g p q z (ix2 r 4) = g (ix2 r 3) := by
  unfold fvals
  pointwise
  rfl
/-- Column 5 of the labels. -/
theorem fvals_5 : fvals (F := Ideal) f g p q z (ix2 r 5) = p (ix2 r 0) := by
  unfold fvals
  pointwise
  rfl
/-- Column 6 of the labels. -/
theorem fvals_6 : fvals (F := Ideal) f g p q z (ix2 r 6) = q (ix2 r 0) := by
  unfold fvals
  pointwise
  rfl

end Columns

end Cert.KernelIdeal.Host

end
-- ==== Proof.KernelArray.lean ====
/-
  What the kernel's result array holds after the run: in row `r` and column `c` the divergence of `Row.kernelLabel` from the
  prediction, the row's data read off the arguments.
-/
module

public import proofs.«01_k».proof.Proof.KernelBlock
public import proofs.«01_k».proof.Proof.HostElem

@[expose] public section

noncomputable section

namespace Cert.KernelIdeal.Block

open Cert.KernelIdeal Cert.KernelIdeal.Gen Cert.KernelIdeal.Host
open Idealize.ShloMosaic hiding ix1 ix2 ix3 ix4
open Idealize.ShloMosaic.ValueIdx Idealize.ShloMosaic.TcCoe Idealize.SL.Sem Cert.Elem

variable (m : (ℓ : Loc nD τ sig) → Buf (Elt Ideal) ℓ) (c : Dev nD)

/-- The result array: in row `r` and column `j` the divergence of the row's label from the prediction. -/
def G : S8192x4096.Idx → EReal := fun i =>
  diverge ((rowOf (A1 m c) (A2 m c) (A3 m c) (i 0)).kernelLabel (BitVec.ofNat 32 (i 1).val)) (predOf (A0 m c) (i 0) (i 1))

/-- Grid point `t` is at block `t` of the rows and at the first block of the columns. -/
theorem point_at : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, win0_0.index t = ![t.val, 0] ∧ win0_1.index t = ![t.val, 0] ∧ win0_2.index t = ![t.val, 0]
    ∧ win0_3.index t = ![t.val, 0])

/-- Row `p` of block `t`, as a row of the array. -/
def blockRow (t : Fin cfg0.N) (p : Fin 512) : Fin 8192 := ⟨t.val * 512 + p.val, by
  have h : t.val < 16 := Nat.lt_of_lt_of_eq t.isLt N_0
  omega⟩

/-- Block `t` of the predictions. -/
theorem iblk0_at (t : Fin cfg0.N) (p : Fin 512) (j : Fin 4096) : iblk m c 0 t (ix2 p j) = V m c main_v1 (ix2 (blockRow t p) j) := by
  blk_ext [iblk, point_at t, blockRow]
/-- Block `t` of the index words. -/
theorem iblk1_at (t : Fin cfg0.N) (p : Fin 512) (k : Fin 8) : iblk m c 1 t (ix2 p k) = V m c main_v56 (ix2 (blockRow t p) k) := by
  blk_ext [iblk, point_at t, blockRow]
/-- Block `t` of the labels. -/
theorem iblk2_at (t : Fin cfg0.N) (p : Fin 512) (k : Fin 8) : iblk m c 2 t (ix2 p k) = V m c main_v58 (ix2 (blockRow t p) k) := by
  blk_ext [iblk, point_at t, blockRow]
/-- Where block `t` of the result lies in its array. -/
theorem emb_at (t : Fin cfg0.N) (p : Fin 512) (j : Fin 4096) :
    ((cfg0.win 3).blk t).view.emb (ix2 p j) = ix2 (blockRow t p) j := by
  blk_ext [point_at t, blockRow]

/-- The predictions, reshaped, at a row and a column. -/
theorem pred_at (r : Fin 8192) (j : Fin 4096) : V m c main_v1 (ix2 r j) = predOf (A0 m c) r j := by
  rw [V_pred]
  refine shapeCast_apply (A0 m c) shapeCasts_S4x2048x4096_S8192x4096 (ix2 r j) (ix3 (batch r) (place r) j) ?_
  rw [Shape.rowMajor_val_three, Shape.rowMajor_val_two]
  show (r.val / 2048 * 2048 + r.val % 2048) * 4096 + j.val = r.val * 4096 + j.val
  omega

/-- A block's result in a row and a column is the result array's entry there. -/
theorem out_at (t : Fin cfg0.N) (p : Fin 512) (j : Fin 4096) :
    out0_3 (iblk m c 0 t) (iblk m c 1 t) (iblk m c 2 t) (ix2 p j) = G m c (ix2 (blockRow t p) j) := by
  have zw : zw1 (ix2 (blockRow t p) 0) = 0#32 := rfl
  refine (block_at _ _ _ p j).trans ?_
  simp only [iblk0_at, iblk1_at, iblk2_at]
  rw [V_icols, V_fvals, icols_0, icols_1, icols_2, icols_3, icols_4, icols_5, fvals_0, fvals_1, fvals_2, fvals_3, fvals_4, fvals_5, fvals_6,
    tgt_at (A1 m c) (A2 m c) (A3 m c), bt_at (A1 m c) (A2 m c) (A3 m c), bt_at (A1 m c) (A2 m c) (A3 m c), bt_at (A1 m c) (A2 m c) (A3 m c),
    bt_at (A1 m c) (A2 m c) (A3 m c), tval_at (A1 m c) (A2 m c) (A3 m c), fbt_at, fbt_at, fbt_at, fbt_at, f0_at,
    crow_at (A1 m c) (A2 m c) (A3 m c)]
  show _ = diverge ((rowOf (A1 m c) (A2 m c) (A3 m c) (blockRow t p)).kernelLabel (BitVec.ofNat 32 j.val)) (predOf (A0 m c) (blockRow t p) j)
  unfold Row.kernelLabel
  rw [zw, pred_at]

/-- The result array after the run. -/
theorem final : (dats m 0 c).arrAt 3 cfg0.N = G m c := by
  refine (dats m 0 c).arrAt_eq_of_covers 3 _ (by decide +kernel) fun t hf y => ?_
  blk_simp
  rw [after0_3]
  obtain ⟨p, j, rfl⟩ : ∃ (p : Fin 512) (j : Fin 4096), y = ix2 p j := ⟨_, _, ValueIdx.eq_ix2 y⟩
  exact (out_at m c t p j).trans (congrArg (G m c) (emb_at t p j)).symm

end Cert.KernelIdeal.Block

end
-- ==== Proof.Scatter.lean ====
/-
  What two of the references' scatters hold at one element. `scatter_rows`: updates `(b, s, k)` of a `[B, S, K]` table
  written into a `[B, S, C]` array at column `word k` of row `(b, s)`; an element holds the last update of its own row whose
  word names its column. `scatter_column`: one whole column overwritten.
-/
module

public import Idealize.ShloMosaic.Lib.ScatterToDense.RefScatter
public import Idealize.ShloMosaic.Lib.Routing.OpsOne

@[expose] public section

namespace Cert.Scatter

open Idealize.ShloMosaic Idealize.ShloMosaic.ValueIdx Idealize.ShloMosaic.Routing Idealize.ShloMosaic.ScatterToDense

variable {α : Type} {B S C K : Nat}

/-- The shape of the table of index triples. -/
abbrev triples (B S K : Nat) : Shape := ⟨4, ![B, S, K, 3]⟩

/-- The dimension numbers of a scatter of single elements by index triples. -/
def ByTriples (d : ScatterDims (shape3 B S C) (triples B S K) (shape3 B S K)) : Prop :=
  d.updateWindowDims = [] ∧ d.insertedWindowDims = [0, 1, 2] ∧ d.scatterDimsToOperandDims = [0, 1, 2] ∧ d.indexVectorDim = 3

/-- Such an update has no window: its coordinate inside the window is 0 on every axis. -/
theorem window_triples (d : ScatterDims (shape3 B S C) (triples B S K) (shape3 B S K)) (hd : ByTriples d)
    (j : (shape3 B S K).Idx) (a : Fin 3) : d.window j a = 0 := by
  have hk : a ∉ d.sKept := by
    show a ∉ (shape3 B S C).kept d.insertedWindowDims
    rw [hd.2.1, show (shape3 B S C).kept [0, 1, 2] = [] from rfl]
    exact List.not_mem_nil
  unfold ScatterDims.window
  exact dif_neg hk

/-- Such an update starts, on axis `a`, at component `a` of its own index triple. -/
theorem start_triples (d : ScatterDims (shape3 B S C) (triples B S K) (shape3 B S K)) (hd : ByTriples d)
    (idx : IVec (triples B S K) 32) (b : Fin B) (s : Fin S) (k : Fin K) (a : Fin 3) :
    d.start (ix3 b s k) idx a = (idx (ix4 b s k a)).toInt := by
  obtain ⟨uw, iw, sd, iv, wf⟩ := d
  obtain ⟨h1, h2, h3, h4⟩ := hd
  dsimp only at h1 h2 h3 h4
  subst h1 h2 h3 h4
  have ha : a ∈ ([0, 1, 2] : List (Fin 3)) := by fin_cases a <;> decide
  refine (dif_pos ha).trans (congrArg (fun t => (idx t).toInt) (funext fun x => Fin.ext ?_))
  match x with
  | ⟨0, _⟩ => rfl
  | ⟨1, _⟩ => rfl
  | ⟨2, _⟩ => rfl
  | ⟨3, _⟩ => fin_cases a <;> rfl

/-- Row-major position `n` of a `[B, S, K]` table: row `n / K`, that is `(n / K / S, n / K % S)`, and place `n % K` in it. -/
theorem unflatten (n : Fin (shape3 B S K).numel) (hb : n.val / K / S < B) (hs : n.val / K % S < S) (hk : n.val % K < K) :
    (shape3 B S K).rowMajor.symm n = ix3 (⟨n.val / K / S, hb⟩ : Fin B) (⟨n.val / K % S, hs⟩ : Fin S) (⟨n.val % K, hk⟩ : Fin K) := by
  rw [Equiv.symm_apply_eq]
  apply Fin.ext
  rw [Shape.rowMajor_val_three]
  show n.val = _
  simp only []
  have e1 := Nat.div_add_mod' n.val K
  have e2 := Nat.div_add_mod' (n.val / K) S
  show n.val = (n.val / K / S * S + n.val / K % S) * K + n.val % K
  rw [e2, e1]

/-- An element of the row scatter: the last update of its row whose word is its column, else the operand's element. -/
theorem scatter_rows (d : ScatterDims (shape3 B S C) (triples B S K) (shape3 B S K)) (hd : ByTriples d)
    (hB : B ≤ 2 ^ 31) (hS : S ≤ 2 ^ 31) (hC : C ≤ 2 ^ 31)
    (x0 : (shape3 B S C).Idx → α) (idx : IVec (triples B S K) 32) (upd : (shape3 B S K).Idx → α) (b : Fin B) (s : Fin S)
    (word : Nat → BitVec 32) (val : Nat → α)
    (h0 : ∀ (b : Fin B) (s : Fin S) (k : Fin K), idx (ix4 b s k (0 : Fin 3)) = BitVec.ofNat 32 b.val)
    (h1 : ∀ (b : Fin B) (s : Fin S) (k : Fin K), idx (ix4 b s k (1 : Fin 3)) = BitVec.ofNat 32 s.val)
    (h2 : ∀ k : Fin K, idx (ix4 b s k (2 : Fin 3)) = word k.val) (hv : ∀ k : Fin K, upd (ix3 b s k) = val k.val) (c : Fin C) :
    Host.scatter d (fun _ y => y) x0 idx upd (ix3 b s c) = GS word val (x0 (ix3 b s c)) c.val K := by
  have hN : (shape3 B S K).numel = (B * S) * K := by simp [Shape.numel, Fin.prod_univ_three]
  have hrow : b.val * S + s.val < B * S := by
    calc b.val * S + s.val < b.val * S + S := Nat.add_lt_add_left s.isLt _
      _ = (b.val + 1) * S := (Nat.succ_mul _ _).symm
      _ ≤ B * S := Nat.mul_le_mul_right _ b.isLt
  have hS0 : 0 < S := Nat.lt_of_le_of_lt (Nat.zero_le _) s.isLt
  rw [scatter_at, ← scatter_fold_tok word val (x0 (ix3 b s c)) c.val hrow, ← hN, ← List.map_coe_finRange_eq_range, List.foldl_map]
  congr 1
  funext a n
  have hn : n.val < (B * S) * K := hN ▸ n.isLt
  have hK0 : 0 < K := Nat.pos_of_ne_zero fun h => by subst h; simp at hn
  have hr : n.val / K < B * S := Nat.div_lt_of_lt_mul (by rwa [Nat.mul_comm] at hn)
  have hb : n.val / K / S < B := Nat.div_lt_of_lt_mul (by rwa [Nat.mul_comm] at hr)
  have hs : n.val / K % S < S := Nat.mod_lt _ hS0
  have hk : n.val % K < K := Nat.mod_lt _ hK0
  rw [unflatten n hb hs hk]
  unfold stepAtTok
  have lands : d.resultIdx? (ix3 (⟨n.val / K / S, hb⟩ : Fin B) (⟨n.val / K % S, hs⟩ : Fin S) (⟨n.val % K, hk⟩ : Fin K)) idx = some (ix3 b s c)
      ↔ n.val / K / S = b.val ∧ n.val / K % S = s.val
        ∧ c.val = (idx (ix4 (⟨n.val / K / S, hb⟩ : Fin B) (⟨n.val / K % S, hs⟩ : Fin S) (⟨n.val % K, hk⟩ : Fin K) (2 : Fin 3))).toNat := by
    rw [resultIdx?_eq_some, ← toInt_eq_iff _ _ (Nat.lt_of_lt_of_le c.isLt hC)]
    have e0 := StableHlo.Predicate.toInt_ofNat_small _ (Nat.lt_of_lt_of_le hb hB)
    have e1 := StableHlo.Predicate.toInt_ofNat_small _ (Nat.lt_of_lt_of_le hs hS)
    constructor
    · intro h
      have q0 := h (0 : Fin 3)
      have q1 := h (1 : Fin 3)
      have q2 := h (2 : Fin 3)
      rw [window_triples d hd, start_triples d hd] at q0 q1 q2
      rw [h0, e0] at q0
      rw [h1, e1] at q1
      refine ⟨?_, ?_, ?_⟩
      · exact Int.natCast_inj.1 ((Int.add_zero _).symm.trans q0)
      · exact Int.natCast_inj.1 ((Int.add_zero _).symm.trans q1)
      · exact (Int.add_zero _).symm.trans q2
    · rintro ⟨q0, q1, q2⟩ x
      rw [window_triples d hd, start_triples d hd]
      match x with
      | ⟨0, _⟩ => exact (Int.add_zero _).trans ((congrArg BitVec.toInt (h0 _ _ _)).trans (e0.trans (Int.natCast_inj.2 q0)))
      | ⟨1, _⟩ => exact (Int.add_zero _).trans ((congrArg BitVec.toInt (h1 _ _ _)).trans (e1.trans (Int.natCast_inj.2 q1)))
      | ⟨2, _⟩ => exact (Int.add_zero _).trans q2
  by_cases hrow' : n.val / K = b.val * S + s.val
  · have eb : n.val / K / S = b.val := by
      rw [hrow', Nat.mul_comm, Nat.mul_add_div hS0, Nat.div_eq_of_lt s.isLt, Nat.add_zero]
    have es : n.val / K % S = s.val := by rw [hrow', Nat.mul_comm, Nat.mul_add_mod, Nat.mod_eq_of_lt s.isLt]
    have fb : (⟨n.val / K / S, hb⟩ : Fin B) = b := Fin.ext eb
    have fs : (⟨n.val / K % S, hs⟩ : Fin S) = s := Fin.ext es
    rw [fb, fs] at lands ⊢
    rw [h2] at lands
    rw [hv]
    refine if_congr ?_ rfl rfl
    rw [lands]
    exact ⟨fun h => ⟨hrow', h.2.2⟩, fun h => ⟨eb, es, h.2⟩⟩
  · refine (if_neg fun h => hrow' ?_).trans (if_neg fun h => hrow' h.1).symm
    obtain ⟨q0, q1, -⟩ := lands.1 h
    rw [← q0, ← q1]
    exact (Nat.div_add_mod' _ _).symm

/-- A column overwritten: the new values in that column, the operand elsewhere. -/
theorem scatter_column {A N : Nat} (d : ScatterDims (shape2 A N) (shape1 1) (shape1 A)) (hiw : d.insertedWindowDims = [1])
    (hsd : d.scatterDimsToOperandDims = [1]) (x0 : (shape2 A N).Idx → α) (idx : IVec (shape1 1) 32) (upd : (shape1 A).Idx → α)
    (k : Fin N) (hidx : (idx (ix1 0)).toInt = (k.val : Int)) (r : Fin A) (e : Fin N) :
    Host.scatter d (fun _ y => y) x0 idx upd (ix2 r e) = if e = k then upd (ix1 r) else x0 (ix2 r e) := by
  have iff := fun w => lands_col d hiw hsd idx k hidx w r e
  split
  · next h =>
    refine scatter_set_hit d x0 idx upd _ _ (fun j hj => ?_) (ix1 r) ((iff r).2 ⟨rfl, h⟩)
    obtain ⟨w, rfl⟩ : ∃ w : Fin A, j = ix1 w := ⟨j 0, eq_ix1 j⟩
    rw [((iff w).1 hj).1]
  · next h =>
    refine scatter_set_miss d x0 idx upd _ fun j hj => ?_
    obtain ⟨w, rfl⟩ : ∃ w : Fin A, j = ix1 w := ⟨j 0, eq_ix1 j⟩
    exact h ((iff w).1 hj).2

end Cert.Scatter
-- ==== Proof.RefValue.lean ====
/-
  What the reference computes, element by element: in row `r` and column `c` the divergence of `Row.labelWith` from the
  prediction, the bias there being `Row.scatPlain`. The words of the targets and of the biased targets are taken to be
  below `2 ^ 31`, so the reference's wrap of negative indices leaves them as they are.
-/
module

public import proofs.«01_k».proof.Proof.Gen.ReferenceIdeal.Read
public import proofs.«01_k».proof.Proof.Rows
public import proofs.«01_k».proof.Proof.Scatter
public import Idealize.ShloMosaic.Lib.ValueIdx
public import Idealize.ShloMosaic.Lib.Pointwise
public import Idealize.ShloMosaic.Lib.Routing.OpsPair

@[expose] public section

noncomputable section

namespace Cert.ReferenceIdeal.At

open Cert.ReferenceIdeal Cert.ReferenceIdeal.Gen Cert.ReferenceIdeal.Read
open Idealize.ShloMosaic hiding ix1 ix2 ix3 ix4 eq_ix1 eq_ix2 eq_ix3
open Idealize.ShloMosaic.ValueIdx Idealize.ShloMosaic.ScatterToDense Idealize.ShloMosaic.Routing Cert.Elem Cert.Scatter

/-! ## Index words -/

/-- A small number's word is not wrapped. -/
theorem wrap_small (n : Nat) (h : n < 2 ^ 31) (a : BitVec 32) :
    Scalar.select (IntOp.cmpi .slt (BitVec.ofNat 32 n) 0#32) a (BitVec.ofNat 32 n) = BitVec.ofNat 32 n :=
  wrap_of_lt _ _ (by rw [BitVec.toNat_ofNat, Nat.mod_eq_of_lt (by omega)]; exact h)

/-- The batch number as a word. -/
theorem v16_at (i : S4x1x1.Idx) : val_main_v16 (F := Ideal) i = BitVec.ofNat 32 (i 0).val := by
  have h : (i 0).val < 4 := (i 0).isLt
  rw [val_main_v16_apply, val_main_v13_apply, val_main_v12_apply, val_main_c_apply, val_main_v8_apply, val_main_v7_apply]
  exact wrap_small (i 0).val (by omega) _
/-- The place in the batch as a word. -/
theorem v21_at (i : S1x2048x1.Idx) : val_main_v21 (F := Ideal) i = BitVec.ofNat 32 (i 1).val := by
  have h : (i 1).val < 2048 := (i 1).isLt
  rw [val_main_v21_apply, val_main_v18_apply, val_main_v17_apply, val_main_c_4_apply, val_main_v10_apply, val_main_v9_apply]
  exact wrap_small (i 1).val (by omega) _
/-- The row number as a word. -/
theorem v54_at (i : S8192x1.Idx) : val_main_v54 (F := Ideal) i = BitVec.ofNat 32 (i 0).val := by
  have h : (i 0).val < 8192 := (i 0).isLt
  rw [val_main_v54_apply, val_main_v51_apply, val_main_v50_apply, val_main_c_11_apply, val_main_v49_apply, val_main_v48_apply]
  exact wrap_small (i 0).val (by omega) _
/-- A biased target below `2 ^ 31` is not wrapped. -/
theorem v26_at (x : IVec S4x2048x4 32) (hx : ∀ i, (x i).toNat < 2 ^ 31) (i : S4x2048x4.Idx) : val_main_v26 (F := Ideal) x i = x i := by
  rw [val_main_v26_apply, val_main_v23_apply, val_main_v22_apply, val_main_c_6_apply]
  exact wrap_of_lt _ _ (hx i)

/-! ## The bias: the offsets scattered into the biased targets' columns -/

/-- The index triples: the batch. -/
theorem v32_at0 (x : IVec S4x2048x4 32) (b : Fin 4) (s : Fin 2048) (k : Fin 4) :
    val_main_v32 (F := Ideal) x (ix4 b s k (0 : Fin 3)) = BitVec.ofNat 32 b.val := by
  unfold val_main_v32
  pointwise
  rw [val_main_v29_apply, val_main_v27_apply, v16_at]
  rfl
/-- The index triples: the place. -/
theorem v32_at1 (x : IVec S4x2048x4 32) (b : Fin 4) (s : Fin 2048) (k : Fin 4) :
    val_main_v32 (F := Ideal) x (ix4 b s k (1 : Fin 3)) = BitVec.ofNat 32 s.val := by
  unfold val_main_v32
  pointwise
  rw [val_main_v30_apply, val_main_v28_apply, v21_at]
  rfl
/-- The index triples: the biased target. -/
theorem v32_at2 (x : IVec S4x2048x4 32) (hx : ∀ i, (x i).toNat < 2 ^ 31) (b : Fin 4) (s : Fin 2048) (k : Fin 4) :
    val_main_v32 (F := Ideal) x (ix4 b s k (2 : Fin 3)) = x (ix3 b s k) := by
  unfold val_main_v32
  pointwise
  rw [val_main_v31_apply, v26_at x hx]
  refine congrArg x (funext fun a => ?_)
  match a with
  | ⟨0, _⟩ => rfl
  | ⟨1, _⟩ => rfl
  | ⟨2, _⟩ => rfl

/-- A conditional on a column's number being a word's is the conditional on the column's word being that word. -/
theorem column_if {α : Type} (c : Fin 4096) (w : BitVec 32) (x y : α) :
    (if c.val = w.toNat then x else y) = if BitVec.ofNat 32 c.val = w then x else y := by
  refine if_congr ⟨fun h => ?_, fun h => ?_⟩ rfl rfl
  · rw [h, BitVec.ofNat_toNat, BitVec.setWidth_eq]
  · rw [← h, BitVec.toNat_ofNat, Nat.mod_eq_of_lt (by omega)]

/-- Entry `n` of a table of four, the numbers past the table taken at its last entry. -/
def entry {α : Type} (f : Fin 4 → α) (n : Nat) : α := if h : n < 4 then f ⟨n, h⟩ else f 3

/-- Below four it is the entry. -/
theorem entry_val {α : Type} (f : Fin 4 → α) (k : Fin 4) : entry f k.val = f k := by
  unfold entry
  rw [dif_pos k.isLt]

/-- Updates `u` scattered at words `x` into zeros: an element holds the last of its row's four updates that names its
    column. -/
theorem scattered (x : IVec S4x2048x4 32) (hx : ∀ i, (x i).toNat < 2 ^ 31) (u : FVec Ideal S4x2048x4 .f32) (b : Fin 4) (s : Fin 2048)
    (c : Fin 4096) :
    Host.scatter scatter_S4x2048x4096_S4x2048x4x3_S4x2048x4_n_012_012_3 (fun _ y => y) (val_main_v11 (F := Ideal)) (val_main_v32 (F := Ideal) x) u
        (ix3 b s c)
      = if BitVec.ofNat 32 c.val = x (ix3 b s 3) then u (ix3 b s 3) else
        if BitVec.ofNat 32 c.val = x (ix3 b s 2) then u (ix3 b s 2) else
        if BitVec.ofNat 32 c.val = x (ix3 b s 1) then u (ix3 b s 1) else
        if BitVec.ofNat 32 c.val = x (ix3 b s 0) then u (ix3 b s 0) else zero := by
  refine (scatter_rows scatter_S4x2048x4096_S4x2048x4x3_S4x2048x4_n_012_012_3 ⟨rfl, rfl, rfl, rfl⟩ (by decide) (by decide) (by decide) _ _ _ b s
    (entry fun k => x (ix3 b s k)) (entry fun k => u (ix3 b s k)) (v32_at0 x) (v32_at1 x) (fun k => ?_) (fun k => ?_) c).trans ?_
  · rw [v32_at2 x hx, entry_val]
  · rw [entry_val]
  · rw [GS_succ, GS_succ, GS_succ, GS_succ, GS_zero, column_if, column_if, column_if, column_if]
    rfl

/-! ## The base distribution -/

/-- The target word of a row. -/
theorem v35_at (x1 : IVec S4x2048 32) (r : Fin 8192) : val_main_v35 (F := Ideal) x1 (ix1 r) = x1 (ix2 (batch r) (place r)) := by
  rw [val_main_v35_apply]
  refine congrArg x1 (funext fun a => ?_)
  match a with
  | ⟨0, _⟩ => rfl
  | ⟨1, _⟩ => rfl
/-- The four words of a row's updates are its target word. -/
theorem v45_at (x1 : IVec S4x2048 32) (r : Fin 8192) (k : Fin 4) :
    val_main_v45 (F := Ideal) x1 (ix2 r k) = x1 (ix2 (batch r) (place r)) := by
  rw [val_main_v45_apply, val_main_v44_apply, val_main_v43_apply, val_main_v42_apply, val_main_v41_apply, ← v35_at x1 r]
  refine congrArg (val_main_v35 (F := Ideal) x1) (funext fun a => ?_)
  match a with
  | ⟨0, _⟩ =>
    apply Fin.ext
    show 0 * 8192 + (k.val * 8192 + r.val) % 8192 = r.val
    omega
/-- The last of a row's four updates is its target's amplitude. -/
theorem v47_at (x1 : IVec S4x2048 32) (x2 : IVec S4x2048x4 32) (x3 : FVec Ideal S4x2048x4 .f32) (r : Fin 8192) :
    val_main_v47 (F := Ideal) x3 (ix2 r 3) = (rowOf x1 x2 x3 r).amp := by
  rw [val_main_v47_apply, val_main_v46_apply, val_main_v4_apply, val_main_v3_apply, val_main_cst_0_apply, val_main_v2_apply, val_main_v1_apply,
    val_main_v0_apply, val_main_cst_apply]
  have e : idx_main_v2 (idx_main_v46 (idx_main_v47 (ix2 r (3 : Fin 4)))) = ix3 (3 : Fin 4) (ampPlace r) (ampSlot r) := by
    funext a
    match a with
    | ⟨0, _⟩ =>
      apply Fin.ext
      show (3 * 8192 + r.val) / 8192 = 3
      omega
    | ⟨1, _⟩ =>
      apply Fin.ext
      show (3 * 8192 + r.val) / 4 % 2048 = r.val / 4
      omega
    | ⟨2, _⟩ =>
      apply Fin.ext
      show (3 * 8192 + r.val) % 4 = r.val % 4
      omega
  rw [e]
  rfl
/-- The index pairs: the row. -/
theorem v63_at0 (x1 : IVec S4x2048 32) (r : Fin 8192) (k : Fin 4) :
    val_main_v63 (F := Ideal) x1 (ix3 r k (0 : Fin 2)) = BitVec.ofNat 32 r.val := by
  unfold val_main_v63
  pointwise
  rw [val_main_v61_apply, val_main_v60_apply, v54_at]
  rfl
/-- The index pairs: the target word. -/
theorem v63_at1 (x1 : IVec S4x2048 32) (hx : ∀ i, (x1 i).toNat < 2 ^ 31) (r : Fin 8192) (k : Fin 4) :
    val_main_v63 (F := Ideal) x1 (ix3 r k (1 : Fin 2)) = x1 (ix2 (batch r) (place r)) := by
  unfold val_main_v63
  pointwise
  rw [val_main_v62_apply]
  have e : idx_main_v62 (Idealize.ShloMosaic.ix3 r k (0 : Fin 1)) = ix2 r k := by
    funext a
    match a with
    | ⟨0, _⟩ => rfl
    | ⟨1, _⟩ => rfl
  refine (congrArg (val_main_v59 (F := Ideal) x1) e).trans ?_
  rw [val_main_v59_apply, val_main_v56_apply, val_main_v55_apply, val_main_c_13_apply, v45_at]
  exact wrap_of_lt _ _ (hx _)
/-- The even share of an ordinary column. -/
theorem v40_at (i : S8192x4096.Idx) : val_main_v40 (F := Ideal) i = Ideal.div (mass * one) cols := by
  rw [val_main_v40_apply, val_main_v39_apply, val_main_cst_10_apply, val_main_v38_apply, val_main_v37_apply, val_main_cst_9_apply,
    val_main_v36_apply, val_main_cst_8_apply]
  rfl
/-- The base distribution before column 0 is cleared: the amplitude in the target's column, the even share elsewhere. -/
theorem v64_at (x1 : IVec S4x2048 32) (hx : ∀ i, (x1 i).toNat < 2 ^ 31) (x2 : IVec S4x2048x4 32) (x3 : FVec Ideal S4x2048x4 .f32) (r : Fin 8192)
    (c : Fin 4096) :
    val_main_v64 (F := Ideal) x1 x3 (ix2 r c)
      = if BitVec.ofNat 32 c.val = (rowOf x1 x2 x3 r).tgt then (rowOf x1 x2 x3 r).amp else Ideal.div (mass * one) cols := by
  unfold val_main_v64
  refine (scatter_eq_GS scatter_S8192x4096_S8192x4x2_S8192x4_n_01_01_2 rfl rfl rfl (by decide) (by decide) _ _ _
    (fun r _ => x1 (ix2 (batch r) (place r))) (fun r => entry fun k => val_main_v47 (F := Ideal) x3 (ix2 r k)) (v63_at0 x1) (v63_at1 x1 hx)
    (fun r k => (entry_val (fun k => val_main_v47 (F := Ideal) x3 (ix2 r k)) k).symm) r c).trans ?_
  rw [GS_succ, GS_succ, GS_succ, GS_succ, GS_zero, v40_at, ← column_if]
  show _ = if c.val = (x1 (ix2 (batch r) (place r))).toNat then (rowOf x1 x2 x3 r).amp else Ideal.div (mass * one) cols
  by_cases h : c.val = (x1 (ix2 (batch r) (place r))).toNat
  · rw [if_pos h, if_pos h]
    exact v47_at x1 x2 x3 r
  · rw [if_neg h, if_neg h, if_neg h, if_neg h, if_neg h]
/-- The base distribution: column 0 is zero. -/
theorem v67_at (x1 : IVec S4x2048 32) (hx : ∀ i, (x1 i).toNat < 2 ^ 31) (x2 : IVec S4x2048x4 32) (x3 : FVec Ideal S4x2048x4 .f32) (r : Fin 8192)
    (c : Fin 4096) :
    val_main_v67 (F := Ideal) x1 x3 (ix2 r c)
      = if BitVec.ofNat 32 c.val = 0#32 then zero
        else if BitVec.ofNat 32 c.val = (rowOf x1 x2 x3 r).tgt then (rowOf x1 x2 x3 r).amp else Ideal.div (mass * one) cols := by
  unfold val_main_v67
  have h0 : (val_main_v65 (F := Ideal) (ix1 0)).toInt = ((0 : Fin 4096).val : Int) := by
    rw [val_main_v65_apply, val_main_c_15_apply]
    rfl
  refine (scatter_column scatter_S8192x4096_S1_S8192_0_1_1_0 rfl rfl _ _ _ (0 : Fin 4096) h0 r c).trans ?_
  rw [← column_if c 0#32, v64_at x1 hx x2, val_main_v66_apply, val_main_cst_16_apply]
  exact if_congr Fin.ext_iff rfl rfl

/-! ## The result, for any bias -/

/-- The label array when the bias array is `w`. -/
def labels (x1 : IVec S4x2048 32) (x3 : FVec Ideal S4x2048x4 .f32) (w : FVec Ideal S4x2048x4096 .f32) : FVec Ideal S8192x4096 .f32 :=
  addf (select (val_main_call0_v1 (F := Ideal) x1) (val_main_call0_v2 (F := Ideal))
    (addf (val_main_v67 (F := Ideal) x1 x3) (shapeCast S8192x4096 w shapeCasts_S4x2048x4096_S8192x4096))) (val_main_v74 (F := Ideal))
/-- The result when the bias array is `w`. -/
def withBias (x0 : FVec Ideal S4x2048x4096 .f32) (x1 : IVec S4x2048 32) (x3 : FVec Ideal S4x2048x4 .f32) (w : FVec Ideal S4x2048x4096 .f32) :
    FVec Ideal S8192x4096 .f32 :=
  mulf (labels x1 x3 w) (subf (Host.log (labels x1 x3 w)) (val_main_v34 (F := Ideal) x0))

/-- The label in row `r` and column `c`. -/
theorem labels_at (x1 : IVec S4x2048 32) (hx : ∀ i, (x1 i).toNat < 2 ^ 31) (x2 : IVec S4x2048x4 32) (x3 : FVec Ideal S4x2048x4 .f32)
    (w : FVec Ideal S4x2048x4096 .f32) (r : Fin 8192) (c : Fin 4096) :
    labels x1 x3 w (ix2 r c) = (rowOf x1 x2 x3 r).labelWith (w (ix3 (batch r) (place r) c)) (BitVec.ofNat 32 c.val) := by
  have ew : shapeCast S8192x4096 w shapeCasts_S4x2048x4096_S8192x4096 (ix2 r c) = w (ix3 (batch r) (place r) c) := by
    refine shapeCast_apply w shapeCasts_S4x2048x4096_S8192x4096 (ix2 r c) (ix3 (batch r) (place r) c) ?_
    rw [Shape.rowMajor_val_three, Shape.rowMajor_val_two]
    show (r.val / 2048 * 2048 + r.val % 2048) * 4096 + c.val = r.val * 4096 + c.val
    omega
  have ei : idx_main_v72 (idx_main_call0_v1 (ix2 r c)) = ix1 r := by
    funext a
    match a with
    | ⟨0, _⟩ => rfl
  unfold labels
  rw [addf_apply, select_apply, addf_apply, ew, v67_at x1 hx x2, val_main_v74_apply, val_main_cst_19_apply, val_main_call0_v2_apply,
    val_main_call0_v0_apply, val_main_cst_18_apply, val_main_call0_v1_apply, val_main_v72_apply, ei, val_main_v71_apply, val_main_v70_apply,
    val_main_c_17_apply, v35_at, select_eq]
  rfl

/-- The result in row `r` and column `c`. -/
theorem withBias_at (x0 : FVec Ideal S4x2048x4096 .f32) (x1 : IVec S4x2048 32) (hx : ∀ i, (x1 i).toNat < 2 ^ 31) (x2 : IVec S4x2048x4 32)
    (x3 : FVec Ideal S4x2048x4 .f32) (w : FVec Ideal S4x2048x4096 .f32) (r : Fin 8192) (c : Fin 4096) :
    withBias x0 x1 x3 w (ix2 r c)
      = diverge ((rowOf x1 x2 x3 r).labelWith (w (ix3 (batch r) (place r) c)) (BitVec.ofNat 32 c.val)) (predOf x0 r c) := by
  have ep : val_main_v34 (F := Ideal) x0 (ix2 r c) = predOf x0 r c := by
    unfold val_main_v34
    refine shapeCast_apply x0 shapeCasts_S4x2048x4096_S8192x4096 (ix2 r c) (ix3 (batch r) (place r) c) ?_
    rw [Shape.rowMajor_val_three, Shape.rowMajor_val_two]
    show (r.val / 2048 * 2048 + r.val % 2048) * 4096 + c.val = r.val * 4096 + c.val
    omega
  rw [← labels_at x1 hx x2, ← ep]
  rfl

/-- The reference's result in row `r` and column `c`. -/
theorem result_at (x0 : FVec Ideal S4x2048x4096 .f32) (x1 : IVec S4x2048 32) (hx1 : ∀ i, (x1 i).toNat < 2 ^ 31) (x2 : IVec S4x2048x4 32)
    (hx2 : ∀ i, (x2 i).toNat < 2 ^ 31) (x3 : FVec Ideal S4x2048x4 .f32) (r : Fin 8192) (c : Fin 4096) :
    val_main_v78 (F := Ideal) x0 x1 x2 x3 (ix2 r c)
      = diverge ((rowOf x1 x2 x3 r).labelWith ((rowOf x1 x2 x3 r).scatPlain (BitVec.ofNat 32 c.val)) (BitVec.ofNat 32 c.val)) (predOf x0 r c) := by
  have e : val_main_v78 (F := Ideal) x0 x1 x2 x3 = withBias x0 x1 x3 (val_main_v33 (F := Ideal) x2 x3) := rfl
  have eb : val_main_v33 (F := Ideal) x2 x3 (ix3 (batch r) (place r) c) = (rowOf x1 x2 x3 r).scatPlain (BitVec.ofNat 32 c.val) := by
    unfold val_main_v33
    refine (scattered x2 hx2 _ _ _ c).trans ?_
    simp only [val_main_v6_apply, val_main_v5_apply, val_main_cst_1_apply]
    rfl
  rw [e, withBias_at x0 x1 hx1 x2, eb]

end Cert.ReferenceIdeal.At

end
-- ==== Proof.OrderedValue.lean ====
/-
  What the reference with its updates in the order 1, 0, 2, 3 computes: the plain reference's operations on reordered
  tables of biased targets and of offsets, so in row `r` and column `c` the divergence of `Row.labelWith` from the
  prediction, the bias there being `Row.scat`.
-/
module

public import proofs.«01_k».proof.Proof.RefValue
public import proofs.«01_k».proof.Proof.Gen.OrderedIdeal.Read

@[expose] public section

noncomputable section

namespace Cert.OrderedIdeal.At

open Cert.OrderedIdeal Cert.OrderedIdeal.Gen Cert.OrderedIdeal.Read
open Idealize.ShloMosaic hiding ix1 ix2 ix3 ix4 eq_ix1 eq_ix2 eq_ix3
open Idealize.ShloMosaic.ValueIdx Cert.Elem

/-- Where the reordered tables' entry `k` comes from. -/
def slot (k : Fin 4) : Fin 4 := match k with
  | 0 => 1
  | 1 => 0
  | 2 => 2
  | 3 => 3

/-- The reordered biased targets. -/
theorem v10_at (x2 : IVec S4x2048x4 32) (b : Fin 4) (s : Fin 2048) (k : Fin 4) :
    val_main_v10 (F := Ideal) x2 (ix3 b s k) = x2 (ix3 b s (slot k)) := by
  match k with
  | 0 =>
    unfold val_main_v10 val_main_v7 val_main_v8 val_main_v9
    pointwise
    rfl
  | 1 =>
    unfold val_main_v10 val_main_v7 val_main_v8 val_main_v9
    pointwise
    rfl
  | 2 =>
    unfold val_main_v10 val_main_v7 val_main_v8 val_main_v9
    pointwise
    rfl
  | 3 =>
    unfold val_main_v10 val_main_v7 val_main_v8 val_main_v9
    pointwise
    rfl
/-- The reordered scaled offsets. -/
theorem v14_at (x3 : FVec Ideal S4x2048x4 .f32) (b : Fin 4) (s : Fin 2048) (k : Fin 4) :
    val_main_v14 (F := Ideal) x3 (ix3 b s k) = x3 (ix3 b s (slot k)) * fac := by
  have e : ∀ j : Fin 4, val_main_v6 (F := Ideal) x3 (ix3 b s j) = x3 (ix3 b s j) * fac := fun j => by
    rw [val_main_v6_apply, val_main_v5_apply, val_main_cst_1_apply]
    rfl
  rw [← e]
  match k with
  | 0 =>
    unfold val_main_v14 val_main_v11 val_main_v12 val_main_v13
    generalize val_main_v6 (F := Ideal) x3 = y
    pointwise
    rfl
  | 1 =>
    unfold val_main_v14 val_main_v11 val_main_v12 val_main_v13
    generalize val_main_v6 (F := Ideal) x3 = y
    pointwise
    rfl
  | 2 =>
    unfold val_main_v14 val_main_v11 val_main_v12 val_main_v13
    generalize val_main_v6 (F := Ideal) x3 = y
    pointwise
    rfl
  | 3 =>
    unfold val_main_v14 val_main_v11 val_main_v12 val_main_v13
    generalize val_main_v6 (F := Ideal) x3 = y
    pointwise
    rfl
/-- The reordered words are below `2 ^ 31` when the words are. -/
theorem v10_lt (x2 : IVec S4x2048x4 32) (hx : ∀ i, (x2 i).toNat < 2 ^ 31) (i : S4x2048x4.Idx) :
    (val_main_v10 (F := Ideal) x2 i).toNat < 2 ^ 31 := by
  have at3 : ∀ (b : Fin 4) (s : Fin 2048) (k : Fin 4), (val_main_v10 (F := Ideal) x2 (ix3 b s k)).toNat < 2 ^ 31 := fun b s k => by
    rw [v10_at]
    exact hx _
  rw [ValueIdx.eq_ix3 i]
  exact at3 (i 0) (i 1) (i 2)

/-- The reference's index triples are the plain reference's, of the reordered biased targets. -/
theorem v40_eq (x2 : IVec S4x2048x4 32) :
    val_main_v40 (F := Ideal) x2 = Cert.ReferenceIdeal.Read.val_main_v32 (F := Ideal) (val_main_v10 (F := Ideal) x2) := rfl
/-- The base distribution is the plain reference's. -/
theorem v75_eq (x1 : IVec S4x2048 32) (x3 : FVec Ideal S4x2048x4 .f32) :
    val_main_v75 (F := Ideal) x1 x3 = Cert.ReferenceIdeal.Read.val_main_v67 (F := Ideal) x1 x3 := rfl

/-- The bias in row `r` and column `c`. -/
theorem bias_at (x1 : IVec S4x2048 32) (x2 : IVec S4x2048x4 32) (hx2 : ∀ i, (x2 i).toNat < 2 ^ 31) (x3 : FVec Ideal S4x2048x4 .f32)
    (r : Fin 8192) (c : Fin 4096) :
    val_main_v41 (F := Ideal) x2 x3 (ix3 (batch r) (place r) c) = (rowOf x1 x2 x3 r).scat (BitVec.ofNat 32 c.val) := by
  refine (Cert.ReferenceIdeal.At.scattered (val_main_v10 (F := Ideal) x2) (v10_lt x2 hx2) (val_main_v14 (F := Ideal) x3) _ _ c).trans ?_
  simp only [v10_at, v14_at]
  rfl

/-- The reference's result in row `r` and column `c`. -/
theorem result_at (x0 : FVec Ideal S4x2048x4096 .f32) (x1 : IVec S4x2048 32) (hx1 : ∀ i, (x1 i).toNat < 2 ^ 31) (x2 : IVec S4x2048x4 32)
    (hx2 : ∀ i, (x2 i).toNat < 2 ^ 31) (x3 : FVec Ideal S4x2048x4 .f32) (r : Fin 8192) (c : Fin 4096) :
    val_main_v86 (F := Ideal) x0 x1 x2 x3 (ix2 r c)
      = diverge ((rowOf x1 x2 x3 r).labelWith ((rowOf x1 x2 x3 r).scat (BitVec.ofNat 32 c.val)) (BitVec.ofNat 32 c.val)) (predOf x0 r c) := by
  have e : val_main_v86 (F := Ideal) x0 x1 x2 x3 = Cert.ReferenceIdeal.At.withBias x0 x1 x3 (val_main_v41 (F := Ideal) x2 x3) := rfl
  rw [e, Cert.ReferenceIdeal.At.withBias_at x0 x1 hx1 x2, bias_at x1 x2 hx2]

end Cert.OrderedIdeal.At

end
-- ==== Proof.Pre.lean ====
/-
  What the two preconditions say of the arguments: every target and every biased target, read as a natural number, is below
  `2 ^ 31`; and, for the second, in every row the biased targets 0 and 1 differ, or biased target 0 is also target 2 or 3.
-/
module

public import proofs.«01_k».proof.Proof.Gen.Pre_in_range
public import proofs.«01_k».proof.Proof.Gen.Pre_in_range_and_ordered
public import proofs.«01_k».proof.Proof.Rows
public import Idealize.ShloMosaic.Lib.ReduceAll
public import Idealize.ShloMosaic.Lib.WordCmp
public import Idealize.ShloMosaic.Lib.ValueIdx
public import Idealize.ShloMosaic.Lib.Pipeline.Value

@[expose] public section

noncomputable section

namespace Cert.PreFacts

open Idealize.ShloMosaic
open Idealize.ShloMosaic.ValueIdx Cert.Elem

/-- A word that is at least 0 when read signed is below `2 ^ 31` when read unsigned. -/
theorem lt_of_sge (w : BitVec 32) (h : IntOp.cmpi .sge w 0#32 = 1#1) : w.toNat < 2 ^ 31 := by
  have h' : (0#32).toInt ≤ w.toInt := IntOp.cmpi_sge.1 h
  rw [BitVec.toInt_zero] at h'
  rw [BitVec.toInt_eq_toNat_cond] at h'
  have := w.isLt
  split at h' <;> omega

/-- The index set of a scalar has one element. -/
instance : Subsingleton (⟨0, ![]⟩ : Shape).Idx := ⟨fun a b => funext fun i => i.elim0⟩

/-- The bit 1 and another bit are 1 exactly when the other is; of a conjunction both parts are 1. -/
theorem both {a b : IVec (⟨0, ![]⟩ : Shape) 1} (h : andi a b ix0 = 1#1) : a ix0 = 1#1 ∧ b ix0 = 1#1 := IntOp.andi_eq_one.1 h

section InRange

open Cert.Pre_in_range Cert.Pre_in_range.Gen

variable (x0 : FVec Ideal S4x2048x4096 .f32) (x1 : IVec S4x2048 32) (x2 : IVec S4x2048x4 32) (x3 : FVec Ideal S4x2048x4 .f32)

/-- The first precondition: the words are in range. -/
theorem in_range (h : Cert.Pre_in_range.fn (F := Ideal) x0 x1 x2 x3 = fun _ => 1#1) :
    (∀ i, (x1 i).toNat < 2 ^ 31) ∧ ∀ i, (x2 i).toNat < 2 ^ 31 := by
  have h' := both (congrFun h ix0)
  exact ⟨fun i => lt_of_sge _ (Host.reduce_andi_all _ _ _ _ _ h'.1 i), fun i => lt_of_sge _ (Host.reduce_andi_all _ _ _ _ _ h'.2 i)⟩

end InRange

section Ordered

open Cert.Pre_in_range_and_ordered Cert.Pre_in_range_and_ordered.Gen

variable (x0 : FVec Ideal S4x2048x4096 .f32) (x1 : IVec S4x2048 32) (x2 : IVec S4x2048x4 32) (x3 : FVec Ideal S4x2048x4 .f32)

/-- Column `k` of the biased targets at a place. -/
theorem col_at (k : Fin 4) (n : Nat) (hn : n = k.val) (h : S4x2048x4.Slices ![0, 0, n] S4x2048x1) (hc : S4x2048x1.ShapeCasts S4x2048) (b : Fin 4)
    (s : Fin 2048) : shapeCast S4x2048 (extractStridedSlice S4x2048x1 ![0, 0, n] x2 h) hc (ix2 b s) = x2 (ix3 b s k) := by
  rw [shapeCast_apply _ hc (ix2 b s) (ix3 b s (0 : Fin 1)) (by
    rw [Shape.rowMajor_val_two, Shape.rowMajor_val_three]
    show (b.val * 2048 + s.val) * 1 + 0 = b.val * 2048 + s.val
    omega)]
  exact extractStridedSlice_apply _ x2 h (ix3 b s (0 : Fin 1)) (ix3 b s k) (fun a => match a with
    | ⟨0, _⟩ => (Nat.zero_add _).symm
    | ⟨1, _⟩ => (Nat.zero_add _).symm
    | ⟨2, _⟩ => hn.symm)

/-- The second precondition: the words are in range, and where biased targets 0 and 1 of a row are one column a later
    biased target of the row is that column too. -/
theorem in_range_and_ordered (h : Cert.Pre_in_range_and_ordered.fn (F := Ideal) x0 x1 x2 x3 = fun _ => 1#1) :
    ((∀ i, (x1 i).toNat < 2 ^ 31) ∧ ∀ i, (x2 i).toNat < 2 ^ 31)
      ∧ ∀ r : Fin 8192, (rowOf x1 x2 x3 r).bt 0 ≠ (rowOf x1 x2 x3 r).bt 1 ∨ (rowOf x1 x2 x3 r).bt 0 = (rowOf x1 x2 x3 r).bt 2
          ∨ (rowOf x1 x2 x3 r).bt 0 = (rowOf x1 x2 x3 r).bt 3 := by
  have h' := both (congrFun h ix0)
  have h'' := both h'.1
  refine ⟨⟨fun i => lt_of_sge _ (Host.reduce_andi_all _ _ _ _ _ h''.1 i), fun i => lt_of_sge _ (Host.reduce_andi_all _ _ _ _ _ h''.2 i)⟩, fun r => ?_⟩
  have hr := Host.reduce_andi_all _ _ _ _ _ h'.2 (ix2 (batch r) (place r))
  have e : IntOp.ori (IntOp.ori (IntOp.cmpi .ne ((rowOf x1 x2 x3 r).bt 0) ((rowOf x1 x2 x3 r).bt 1))
      (IntOp.cmpi .eq ((rowOf x1 x2 x3 r).bt 0) ((rowOf x1 x2 x3 r).bt 2)))
      (IntOp.cmpi .eq ((rowOf x1 x2 x3 r).bt 0) ((rowOf x1 x2 x3 r).bt 3)) = 1#1 := by
    rw [← hr]
    show _ = IntOp.ori (IntOp.ori (IntOp.cmpi .ne (shapeCast S4x2048 _ _ _) (shapeCast S4x2048 _ _ _))
      (IntOp.cmpi .eq (shapeCast S4x2048 _ _ _) (shapeCast S4x2048 _ _ _)))
      (IntOp.cmpi .eq (shapeCast S4x2048 _ _ _) (shapeCast S4x2048 _ _ _))
    rw [col_at x2 0 0 rfl, col_at x2 1 1 rfl, col_at x2 2 2 rfl, col_at x2 3 3 rfl]
    rfl
  rw [WordCmp.cmpi_ne_eq, WordCmp.cmpi_eq_eq, WordCmp.cmpi_eq_eq, WordCmp.ori_ofBool, WordCmp.ori_ofBool, WordCmp.ofBool_eq_one_iff,
    Bool.or_eq_true, Bool.or_eq_true, decide_eq_true_eq, decide_eq_true_eq, decide_eq_true_eq] at e
  rcases e with (e | e) | e
  · exact Or.inl e
  · exact Or.inr (Or.inl e)
  · exact Or.inr (Or.inr e)

end Ordered

end Cert.PreFacts

end
-- ==== Proof.Agree.lean ====
/-
  The kernel's result array is what each reference computes from the same arguments, where the precondition of that
  reference holds.
-/
module

public import proofs.«01_k».proof.Proof.KernelArray
public import proofs.«01_k».proof.Proof.OrderedValue
public import proofs.«01_k».proof.Proof.Pre

@[expose] public section

noncomputable section

namespace Cert.Agree

open Cert.KernelIdeal Cert.KernelIdeal.Gen Cert.KernelIdeal.Host Cert.KernelIdeal.Block
open Idealize.ShloMosaic hiding ix1 ix2 ix3 ix4 eq_ix1 eq_ix2 eq_ix3
open Idealize.SL.Sem Cert.Elem

variable (m : (ℓ : Loc nD τ sig) → Buf (Elt Ideal) ℓ) (c : Dev nD)

/-- The kernel's array is the reordered reference's result where the words are in range. -/
theorem ordered (h : Cert.Pre_in_range.fn (F := Ideal) (A0 m c) (A1 m c) (A2 m c) (A3 m c) = fun _ => 1#1) :
    Cert.OrderedIdeal.Read.val_main_v86 (F := Ideal) (A0 m c) (A1 m c) (A2 m c) (A3 m c) = G m c := by
  obtain ⟨h1, h2⟩ := PreFacts.in_range _ _ _ _ h
  funext i
  obtain ⟨r, k, rfl⟩ : ∃ (r : Fin 8192) (k : Fin 4096), i = ValueIdx.ix2 r k := ⟨_, _, ValueIdx.eq_ix2 i⟩
  rw [Cert.OrderedIdeal.At.result_at _ _ h1 _ h2, ← Row.kernelLabel_eq]
  rfl

/-- The kernel's array is the plain reference's result where the words are in range and the order of a row's first two
    updates cannot be seen. -/
theorem plain (h : Cert.Pre_in_range_and_ordered.fn (F := Ideal) (A0 m c) (A1 m c) (A2 m c) (A3 m c) = fun _ => 1#1) :
    Cert.ReferenceIdeal.Read.val_main_v78 (F := Ideal) (A0 m c) (A1 m c) (A2 m c) (A3 m c) = G m c := by
  obtain ⟨⟨h1, h2⟩, ho⟩ := PreFacts.in_range_and_ordered _ _ _ _ h
  funext i
  obtain ⟨r, k, rfl⟩ : ∃ (r : Fin 8192) (k : Fin 4096), i = ValueIdx.ix2 r k := ⟨_, _, ValueIdx.eq_ix2 i⟩
  rw [Cert.ReferenceIdeal.At.result_at _ _ h1 _ h2, Row.scatPlain_eq _ _ (ho r), ← Row.kernelLabel_eq]
  rfl

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.OrderedIdeal
public import proofs.«01_k».proof.Proof.Gen.Pre_in_range
public import proofs.«01_k».proof.Proof.Gen.Pre_in_range_and_ordered
public import proofs.«01_k».proof.Proof.Gen.KernelIdeal.Value
public import proofs.«01_k».proof.Proof.Gen.ReferenceIdeal.Read
public import proofs.«01_k».proof.Proof.Gen.OrderedIdeal.Read
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The plain reference's run leaves its arguments as they were and every semaphore counter at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reordered reference's run leaves its arguments as they were and every semaphore counter at zero. -/
theorem frame_ordered : Cert.quiescent_OrderedIdeal := fun m g _ =>
  (θ_run Cert.OrderedIdeal.defs _ _).mono (fun r h => ⟨fun c => (h c).2, sem_eq_zero_of_no_sems (by decide) r.2⟩)
    (Cert.OrderedIdeal.Value.run (F := Ideal) m g)

/-- Over the extended reals the kernel ends with the result of the reference whose updates are in the order 1, 0, 2, 3, for
    words in range: both end with the kernel's array. -/
theorem algebraic_ordered : Cert.algebraic_KernelIdeal_OrderedIdeal_pre_in_range := by
  intro m g m' g' hpre hagree
  refine ⟨fun c => Cert.KernelIdeal.Block.G m c, ?_, ?_⟩
  · refine (θ_run Cert.KernelIdeal.defs _ _).mono (fun r h c => ⟨?_, (h c).2⟩) (Cert.KernelIdeal.Value.run_blocks (F := Ideal) m g)
    exact (h c).1.trans (Cert.KernelIdeal.Block.final m c)
  · refine (θ_run Cert.OrderedIdeal.defs _ _).mono (fun r h c => ⟨?_, (h c).2⟩) (Cert.OrderedIdeal.Value.run (F := Ideal) m' g')
    obtain ⟨a0, a1, a2, a3⟩ := hagree c
    refine (h c).1.trans ((Cert.OrderedIdeal.Read.val_main_v86_eq m' c).trans ?_)
    rw [a0, a1, a2, a3]
    exact Cert.Agree.ordered m c (hpre c)

/-- Over the extended reals the kernel ends with the plain reference's result, for words in range and rows in which the
    order of the first two updates cannot be seen: both end with the kernel's array. -/
theorem algebraic_plain : Cert.algebraic_KernelIdeal_ReferenceIdeal_pre_in_range_and_ordered := by
  intro m g m' g' hpre hagree
  refine ⟨fun c => Cert.KernelIdeal.Block.G m c, ?_, ?_⟩
  · refine (θ_run Cert.KernelIdeal.defs _ _).mono (fun r h c => ⟨?_, (h c).2⟩) (Cert.KernelIdeal.Value.run_blocks (F := Ideal) m g)
    exact (h c).1.trans (Cert.KernelIdeal.Block.final m c)
  · refine (θ_run Cert.ReferenceIdeal.defs _ _).mono (fun r h c => ⟨?_, (h c).2⟩) (Cert.ReferenceIdeal.Value.run (F := Ideal) m' g')
    obtain ⟨a0, a1, a2, a3⟩ := hagree c
    refine (h c).1.trans ((Cert.ReferenceIdeal.Read.val_main_v78_eq m' c).trans ?_)
    rw [a0, a1, a2, a3]
    exact Cert.Agree.plain m c (hpre c)

/-- Every claim: the frames of the kernel and of both references, the kernel's idealization, and the kernel's equality with
    each reference. -/
theorem claim : Cert.Claim :=
  ⟨Cert.Kernel.Gen.facts, Cert.KernelIdeal.Gen.facts, Cert.ReferenceIdeal.Gen.facts, Cert.OrderedIdeal.Gen.facts,
    Cert.Pre_in_range.Gen.facts, Cert.Pre_in_range_and_ordered.Gen.facts,
    fun m g _ => Cert.Kernel.Gen.frame m g,
    fun m g _ => Cert.KernelIdeal.Gen.frame m g,
    fun m g _ => Cert.KernelIdeal.Gen.frame m g,
    fun m g _ => Cert.KernelIdeal.Gen.frame m g,
    frame_reference,
    fun m g _ => frame_reference m g trivial,
    frame_ordered,
    fun m g _ => frame_ordered m g trivial,
    trivial, algebraic_ordered, algebraic_plain⟩

end Cert.Proof

end
